-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![6144, 2048]⟩ ⟨2, ![12288, 4096]⟩ (Layout.meshBlock [2, 2] ![[0], [1]] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨1, ![2048]⟩ ⟨1, ![4096]⟩ (Layout.meshBlock [2, 2] ![[1]] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = Layout.blockN ⟨2, ![6144, 2048]⟩ ⟨2, ![12288, 4096]⟩ (Layout.meshBlock [2, 2] ![[0], [1]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v12) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S6144x2048 : Shape := ⟨2, ![6144, 2048]⟩
abbrev S2048 : Shape := ⟨1, ![2048]⟩
abbrev S1x6144 : Shape := ⟨2, ![1, 6144]⟩
abbrev S768x2048 : Shape := ⟨2, ![768, 2048]⟩
abbrev S_ : Shape := ⟨0, ![]⟩
abbrev S768 : Shape := ⟨1, ![768]⟩
abbrev S1x768 : Shape := ⟨2, ![1, 768]⟩
abbrev S1x2048 : Shape := ⟨2, ![1, 2048]⟩
abbrev S1536x2048 : Shape := ⟨2, ![1536, 2048]⟩
abbrev S1x1536 : Shape := ⟨2, ![1, 1536]⟩
abbrev S1536x1 : Shape := ⟨2, ![1536, 1]⟩

abbrev nBuf : Space → Nat
  | .hbm => 5
  | .vmem => 12
  | .smem => 0
  | _ => 0

abbrev bufTy : (tb : Table) → Fin (tcTables nBuf tb) → BufTy
  | .hbm, ⟨0, _⟩ => ⟨S6144x2048, .f32⟩
  | .hbm, ⟨1, _⟩ => ⟨S2048, .f32⟩
  | .hbm, ⟨2, _⟩ => ⟨S1x6144, .f32⟩
  | .hbm, ⟨3, _⟩ => ⟨S1x2048, .f32⟩
  | .hbm, ⟨4, _⟩ => ⟨S6144x2048, .f32⟩
  | .local _ .vmem, ⟨0, _⟩ => ⟨S768x2048, .f32⟩
  | .local _ .vmem, ⟨1, _⟩ => ⟨S768x2048, .f32⟩
  | .local _ .vmem, ⟨2, _⟩ => ⟨S1x6144, .f32⟩
  | .local _ .vmem, ⟨3, _⟩ => ⟨S1x6144, .f32⟩
  | .local _ .vmem, ⟨4, _⟩ => ⟨S1x6144, .f32⟩
  | .local _ .vmem, ⟨5, _⟩ => ⟨S1536x2048, .f32⟩
  | .local _ .vmem, ⟨6, _⟩ => ⟨S1536x2048, .f32⟩
  | .local _ .vmem, ⟨7, _⟩ => ⟨S1x2048, .f32⟩
  | .local _ .vmem, ⟨8, _⟩ => ⟨S1x1536, .f32⟩
  | .local _ .vmem, ⟨9, _⟩ => ⟨S1x1536, .f32⟩
  | .local _ .vmem, ⟨10, _⟩ => ⟨S1536x2048, .f32⟩
  | .local _ .vmem, ⟨11, _⟩ => ⟨S1536x2048, .f32⟩
  | _, _ => ⟨S6144x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 1 → Bool
  | ⟨0, _⟩ => false
  | _ => false

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  (ofTc nBuf bufTy 1 12 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc0_scratch1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem3_1 : DmaSem sig := 11
abbrev barrier0 : Sem sig := 0

abbrev nD : Nat := 4
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v6 : BitVec 1 := Scalar.cmpi .eq arg0 c0_i32
  let v7 : BitVec 32 := Scalar.extui v6
  let c0_i32_2 : BitVec 32 := 0#32
  let v8 : BitVec 1 := Scalar.cmpi .ne v7 c0_i32_2
  v8

def k0_dev1 (d0 : Dev nD) : Nat :=
  let c0_i32_9 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_8 : BitVec 32 := 2#32
  let v24 : BitVec 32 := Scalar.muli v2 c2_i32_8
  let v25 : BitVec 32 := Scalar.addi c0_i32_9 v24
  let c1_i32_6 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v23 : BitVec 32 := Scalar.subi c1_i32_6 v5
  let c1_i32_10 : BitVec 32 := 1#32
  let v26 : BitVec 32 := Scalar.muli v23 c1_i32_10
  let v27 : BitVec 32 := Scalar.addi v25 v26
  v27.toNat
def k0_off1 (i : grid0.Coords) : Fin 2 → Nat :=
  let c0_4 : Index := 0#32
  let arg0 : BitVec 32 := BitVec.ofNat 32 (i 0).val
  let c768_i32 : BitVec 32 := 768#32
  let v14 : BitVec 32 := Scalar.muli arg0 c768_i32
  let v15 : Index := Scalar.indexCast v14
  ![0, v15.toNat]
def k0_cond2 (i : grid0.Coords) : BitVec 1 :=
  let arg0 : BitVec 32 := BitVec.ofNat 32 (i 0).val
  let c7_i32 : BitVec 32 := 7#32
  let v19 : BitVec 1 := Scalar.cmpi .eq arg0 c7_i32
  let v20 : BitVec 32 := Scalar.extui v19
  let c0_i32_5 : BitVec 32 := 0#32
  let v21 : BitVec 1 := Scalar.cmpi .ne v20 c0_i32_5
  v21

def k0_dev2 (d0 : Dev nD) : Nat :=
  let c0_i32_8 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_7 : BitVec 32 := 2#32
  let v23 : BitVec 32 := Scalar.muli v2 c2_i32_7
  let v24 : BitVec 32 := Scalar.addi c0_i32_8 v23
  let c1_i32_6 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v22 : BitVec 32 := Scalar.subi c1_i32_6 v5
  let c1_i32_9 : BitVec 32 := 1#32
  let v25 : BitVec 32 := Scalar.muli v22 c1_i32_9
  let v26 : BitVec 32 := Scalar.addi v24 v25
  v26.toNat
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S768x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1536x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1x1536 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1536x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]
-- ==== ReferenceIdeal.lean ====
abbrev S12288x4096 : Shape := ⟨2, ![12288, 4096]⟩
abbrev S4096 : Shape := ⟨1, ![4096]⟩
abbrev S_ : Shape := ⟨0, ![]⟩
abbrev S12288 : Shape := ⟨1, ![12288]⟩
abbrev S12288x1 : Shape := ⟨2, ![12288, 1]⟩
abbrev S1x4096 : Shape := ⟨2, ![1, 4096]⟩

abbrev nBuf : Space → Nat
  | .hbm => 18
  | .vmem => 0
  | .smem => 0
  | _ => 0

abbrev bufTy : (tb : Table) → Fin (tcTables nBuf tb) → BufTy
  | .hbm, ⟨0, _⟩ => ⟨S12288x4096, .f32⟩
  | .hbm, ⟨1, _⟩ => ⟨S4096, .f32⟩
  | .hbm, ⟨2, _⟩ => ⟨S12288x4096, .f32⟩
  | .hbm, ⟨3, _⟩ => ⟨S_, .f32⟩
  | .hbm, ⟨4, _⟩ => ⟨S12288, .f32⟩
  | .hbm, ⟨5, _⟩ => ⟨S12288x1, .f32⟩
  | .hbm, ⟨6, _⟩ => ⟨S_, .f32⟩
  | .hbm, ⟨7, _⟩ => ⟨S12288x1, .f32⟩
  | .hbm, ⟨8, _⟩ => ⟨S12288x1, .f32⟩
  | .hbm, ⟨9, _⟩ => ⟨S_, .f32⟩
  | .hbm, ⟨10, _⟩ => ⟨S12288x1, .f32⟩
  | .hbm, ⟨11, _⟩ => ⟨S12288x1, .f32⟩
  | .hbm, ⟨12, _⟩ => ⟨S12288x1, .f32⟩
  | .hbm, ⟨13, _⟩ => ⟨S1x4096, .f32⟩
  | .hbm, ⟨14, _⟩ => ⟨S12288x4096, .f32⟩
  | .hbm, ⟨15, _⟩ => ⟨S12288x4096, .f32⟩
  | .hbm, ⟨16, _⟩ => ⟨S12288x4096, .f32⟩
  | .hbm, ⟨17, _⟩ => ⟨S12288x4096, .f32⟩
  | _, _ => ⟨S12288x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Proof.Protocol.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Regions
public import Idealize.ShloMosaic.Lib.Pipeline.Kit
public import Idealize.ShloMosaic.Lib.Rounds
public import Idealize.ShloMosaic.Lib.ValueIdx
public import Idealize.ShloMosaic.Lib.Tactic

/-!
# How the two devices of a pair talk in the first kernel

Device `c` sits at row `c / 2` and column `c % 2` of the 2×2 mesh. It talks only to its *mate*, the device of the same row and the other column.
The first kernel squares and sums its shard of `x` row by row into a scratch row (`acc`), sends that row into the mate's `inbox`, receives the
mate's row into its own `inbox`, and adds the two.

There are three counters per device: the barrier, the one its own copy signals when it has left (`sendS`), and the one the mate's copy signals when
it has landed (`recvS`). Each serves one round with one payment:

* the barrier of `c` is paid by the mate, which hands over its own inbox to be written;
* `recvS` of `c` is paid by the mate's copy, which gives `c` its inbox back holding the mate's row sums;
* `sendS` of `c` is paid by its own copy, which gives `c` its `acc` back.
-/

@[expose] public section

noncomputable section

namespace Cert.Rms

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost state: one copy of the rounds algebra for the pipelines, one for the talk between the devices. -/
abbrev UU : Type := UR sig nD τ × UR sig nD τ

local notation "𝕄" => MT nD τ sig Unit (Elt F) ℕ UU ℕ

/-- The pipelines' part of the ghost state. -/
abbrev EP : Emb (UR sig nD τ) (MT nD τ sig Unit (Elt F) ℕ UU ℕ) := embL
/-- The talk's part of the ghost state. -/
abbrev ER : Emb (UR sig nD τ) (MT nD τ sig Unit (Elt F) ℕ UU ℕ) := embR

/-! ## The mate -/

/-- The device of the same row and the other column. -/
def mate (c : Dev nD) : Dev nD := ![1, 0, 3, 2] c

/-- The mate's mate is the device itself. -/
theorem mate_mate (c : Dev nD) : mate (mate c) = c := by revert c; decide

/-- Going to the mate, as a permutation of the devices. -/
def mateEquiv : Dev nD ≃ Dev nD := ⟨mate, mate, mate_mate, mate_mate⟩

/-- The device the kernel signals is the mate. -/
theorem dev1_eq (c : Dev nD) (h : k0_dev1 c < nD) : (⟨k0_dev1 c, h⟩ : Dev nD) = mate c := by revert h; revert c; decide
/-- The device the kernel copies to is the mate. -/
theorem dev2_eq (c : Dev nD) (h : k0_dev2 c < nD) : (⟨k0_dev2 c, h⟩ : Dev nD) = mate c := by revert h; revert c; decide

/-! ## Counters and buffers -/

abbrev barS : Sem sig := barrier0
abbrev sendS : DmaSem sig := 3
abbrev recvS : DmaSem sig := 4

abbrev barCell (c : Dev nD) : GSem nD τ sig := ((c : Thread nD τ), .reg barS)
abbrev sendCell (c : Dev nD) : GSem nD τ sig := ((c : Thread nD τ), .dma sendS)
abbrev recvCell (c : Dev nD) : GSem nD τ sig := ((c : Thread nD τ), .dma recvS)

/-- The row of sums a device builds and sends. -/
abbrev acc : Memref sig .tc .vmem S1x6144 .f32 := Memref.whole cc0_scratch0
/-- The row the mate's copy lands in. -/
abbrev inbox : Memref sig .tc .vmem S1x6144 .f32 := Memref.whole cc0_scratch1

/-- The credit one copy of a row carries. -/
abbrev N : ℕ := inbox.view.dmaCredit
theorem N_pos : 0 < N := View.dmaCredit_pos _ (by decide)

/-- Device `c` owns its `acc`, holding `f`. -/
abbrev accAt (c : Dev nD) (f : S1x6144.Idx → Elt F .f32) : sProp 𝕄 := acc.view.loc (c : Thread nD τ) ↦[acc.view.set]{fullShare} f
/-- Device `c` owns its inbox, holding `f`. -/
abbrev inboxAt (c : Dev nD) (f : S1x6144.Idx → Elt F .f32) : sProp 𝕄 := inbox.view.loc (c : Thread nD τ) ↦[inbox.view.set]{fullShare} f

theorem accAt_eq (c : Dev nD) (f : S1x6144.Idx → Elt F .f32) :
    (accAt c f : sProp 𝕄) = (((c : Thread nD τ).loc cc0_scratch0) ↦{fullShare} f) := by
  unfold accAt; rw [show acc.view.set = Finset.univ from View.set_whole _]
theorem inboxAt_eq (c : Dev nD) (f : S1x6144.Idx → Elt F .f32) :
    (inboxAt c f : sProp 𝕄) = (((c : Thread nD τ).loc cc0_scratch1) ↦{fullShare} f) := by
  unfold inboxAt; rw [show inbox.view.set = Finset.univ from View.set_whole _]

/-- A copy of a whole row leaves the source's contents in the target. -/
theorem landed_eq (fd fs : S1x6144.Idx → Elt F .f32) :
    inbox.view.write (Elt F) fd (acc.view.read (Elt F) fs) Finset.univ = fs := by
  show (View.whole cc0_scratch1).write (Elt F) fd ((View.whole cc0_scratch0).read (Elt F) fs) Finset.univ = fs
  rw [View.read_whole]
  exact View.write_whole_univ _ _ _

/-! ## The values -/

variable (m : (ℓ : Loc nD τ sig) → Buf (Elt F) ℓ)

/-- The block of 768 rows of device `c`'s shard of `x` that grid point `t` reads. -/
def tile (c : Dev nD) (t : Fin grid0.N) : S768x2048.Idx → Elt F .f32 :=
  ((win0 0).blk t).view.read (Elt F) (m ((c : Dev nD), Proc.devRef .tc main_arg0))

/-- The grid point whose block holds row `r`. -/
def pointOf (r : Fin 6144) : Fin grid0.N := ⟨r.val / 768, by rw [N_0]; omega⟩

/-- A row's place within its block. -/
def inBlock (r : Fin 6144) : S1x768.Idx := ValueIdx.ix2 0 ⟨r.val % 768, Nat.mod_lt _ (by decide)⟩

/-- Device `c`'s row sums of squares: entry `r` is what the block holding row `r` gives for it. -/
def rowSq (c : Dev nD) : S1x6144.Idx → Elt F .f32 := fun y => k0_pay1 (tile m c (pointOf (y 1))) (inBlock (y 1))

/-! ## The schedule -/

/-- What the mate hands `c` with the barrier: the mate's inbox, and that the mate's `recvS` is in its round 0. -/
def barPay (c : Dev nD) : sProp 𝕄 := iprop((∃ f, inboxAt (mate c) f) ∗ reached ER (recvCell (mate c)) 0)
/-- What the mate's copy gives `c`: its inbox, holding the mate's row sums. -/
def recvPay (c : Dev nD) : sProp 𝕄 := inboxAt c (rowSq m (mate c))
/-- What `c`'s own copy gives back: `acc`, still holding `c`'s row sums. -/
def sendPay (c : Dev nD) : sProp 𝕄 := accAt c (rowSq m c)

/-- The counters of the talk. -/
abbrev Talks (g : GSem nD τ sig) : Prop :=
  g.1.2 = .tc ∧ (g.2 = .reg barS ∨ g.2 = .dma sendS ∨ g.2 = .dma recvS)

/-- One round, one payment, on every counter of the talk. -/
def sched : Rounds.Schedule (GSem nD τ sig) Unit 𝕄 where
  duties g r := if r = 0 ∧ Talks g then {()} else ∅
  unitless _ := False
  amount g _ _ := if g.2 = .reg barS then 1 else N
  payload g _ _ :=
    if g.2 = .reg barS then barPay g.1.1
    else if g.2 = .dma recvS then recvPay m g.1.1
    else if g.2 = .dma sendS then sendPay m g.1.1
    else iprop(emp)
  amount_pos g _ _ _ := by
    by_cases h : g.2 = .reg barS
    · rw [if_pos h]; exact Nat.one_pos
    · rw [if_neg h]; exact N_pos

instance sched_storable (g : GSem nD τ sig) (r : ℕ) (d : Unit) :
    BI.Storable (upEmb : UEmb _ 𝕄) ((sched (F := F) m).payload g r d) := by
  show BI.Storable upEmb (if g.2 = .reg barS then barPay g.1.1 else if g.2 = .dma recvS then recvPay m g.1.1
    else if g.2 = .dma sendS then sendPay m g.1.1 else iprop(emp))
  unfold barPay recvPay sendPay
  (repeat' split) <;> infer_instance

theorem send_ne_bar : (SemLoc.dma sendS : SemLoc sig) ≠ .reg barS := fun h => by cases h
theorem recv_ne_bar : (SemLoc.dma recvS : SemLoc sig) ≠ .reg barS := fun h => by cases h
theorem send_ne_recv : (SemLoc.dma sendS : SemLoc sig) ≠ .dma recvS := by decide

section Sched

variable (c : Dev nD)

/-! Each counter of the talk has one payment in round 0 … -/

theorem duties_bar : (sched (F := F) m).duties (barCell c) 0 = {()} := by dsimp only [sched]; exact if_pos ⟨rfl, rfl, .inl rfl⟩
theorem duties_send : (sched (F := F) m).duties (sendCell c) 0 = {()} := by dsimp only [sched]; exact if_pos ⟨rfl, rfl, .inr (.inl rfl)⟩
theorem duties_recv : (sched (F := F) m).duties (recvCell c) 0 = {()} := by dsimp only [sched]; exact if_pos ⟨rfl, rfl, .inr (.inr rfl)⟩
/-- … and none later. -/
theorem duties_after (g : GSem nD τ sig) (r : ℕ) (hr : 1 ≤ r) : (sched (F := F) m).duties g r = ∅ := by
  dsimp only [sched]; exact if_neg fun h => by omega

/-! The amounts: a barrier's payment is one unit, a copy's is its credit. -/

theorem amount_bar (u : Unit) : (sched (F := F) m).amount (barCell c) 0 u = 1 := by dsimp only [sched]; exact if_pos rfl
theorem amount_send (u : Unit) : (sched (F := F) m).amount (sendCell c) 0 u = N := by dsimp only [sched]; exact if_neg send_ne_bar
theorem amount_recv (u : Unit) : (sched (F := F) m).amount (recvCell c) 0 u = N := by dsimp only [sched]; exact if_neg recv_ne_bar

/-- A round with a single payment expects that payment's amount. -/
theorem expect_of_single {g : GSem nD τ sig} {n : ℕ} (hd : (sched (F := F) m).duties g 0 = {()})
    (ha : (sched (F := F) m).amount g 0 () = n) : (sched (F := F) m).expect g 0 = n := by
  unfold Schedule.expect Schedule.amountOf; rw [hd, Finset.sum_singleton, ha]

theorem expect_bar : (sched (F := F) m).expect (barCell c) 0 = 1 := expect_of_single m (duties_bar m c) (amount_bar m c ())
theorem expect_send : (sched (F := F) m).expect (sendCell c) 0 = N := expect_of_single m (duties_send m c) (amount_send m c ())
theorem expect_recv : (sched (F := F) m).expect (recvCell c) 0 = N := expect_of_single m (duties_recv m c) (amount_recv m c ())

theorem payload_bar (u : Unit) : (sched (F := F) m).payload (barCell c) 0 u = barPay c := by dsimp only [sched]; exact if_pos rfl
theorem payload_recv (u : Unit) : (sched (F := F) m).payload (recvCell c) 0 u = recvPay m c := by
  dsimp only [sched]; rw [if_neg recv_ne_bar, if_pos rfl]
theorem payload_send (u : Unit) : (sched (F := F) m).payload (sendCell c) 0 u = sendPay m c := by
  dsimp only [sched]; rw [if_neg send_ne_bar, if_neg send_ne_recv, if_pos rfl]

/-- A round with a single payment, none of it taken yet, holds that payment's payload. -/
theorem rest_of_single {g : GSem nD τ sig} {P : sProp 𝕄} (hd : (sched (F := F) m).duties g 0 = {()})
    (hp : (sched (F := F) m).payload g 0 () = P) :
    bigSep ((sched (F := F) m).duties g 0 \ ∅) (fun u => (sched (F := F) m).payload g 0 u) = P := by
  rw [Finset.sdiff_empty, hd, bigSep_singleton, hp]

end Sched

/-! ## What a device owes, and the order of the waits -/

/-- At the start a device owes the mate's `recvS` a copy and the mate's barrier a unit. -/
def owed₀ (c : Dev nD) : CellTallies nD τ sig Unit := tallyAt (recvCell (mate c)) () N + tallyAt (barCell (mate c)) () 1

/-- Only the TensorCores' counters carry a level. -/
def L (g : GSem nD τ sig) : Finset Unit := if g.1.2 = .tc then {()} else ∅
/-- Barriers are at level 1 and `recvS` at level 2: a device may wait at its barrier while it owes its mate a copy. -/
def lv (g : GSem nD τ sig) (_ : Unit) : ℕ := if g.2 = .reg barS then 1 else if g.2 = .dma recvS then 2 else 0

theorem L_of_ne (g : GSem nD τ sig) (h : g.1.2 ≠ .tc) : L g = ∅ := if_neg h
theorem L_tc (c : Dev nD) (sm : SemLoc sig) : L ((c : Thread nD τ), sm) = {()} := if_pos rfl
theorem mem_L (c : Dev nD) (sm : SemLoc sig) (u : Unit) : u ∈ L ((c : Thread nD τ), sm) := by
  rw [L_tc]; exact Finset.mem_singleton_self _
theorem lv_bar (c : Dev nD) : lv (barCell c) () = 1 := if_pos rfl
theorem lv_recv (c : Dev nD) : lv (recvCell c) () = 2 := (if_neg recv_ne_bar).trans (if_pos rfl)

/-- A tally at one counter is positive only there. -/
theorem eq_of_tallyAt_pos {g g' : GSem nD τ sig} {n : ℕ} {u : Unit} (h : 0 < tallyAt g () n g' u) : g' = g := by
  rw [tallyAt_apply] at h
  by_contra hne
  rw [if_neg fun h' => hne h'.1] at h
  exact absurd h (Nat.lt_irrefl 0)

/-- What a device owes at the start it owes to its mate's `recvS` or its mate's barrier. -/
theorem owed₀_pos {c : Dev nD} {g : GSem nD τ sig} {u : Unit} (h : 0 < owed₀ c g u) :
    g = recvCell (mate c) ∨ g = barCell (mate c) := by
  unfold owed₀ at h
  rw [Pi.add_apply, Finsupp.add_apply] at h
  rcases Nat.add_pos_iff_pos_or_pos.mp h with h | h
  · exact .inl (eq_of_tallyAt_pos h)
  · exact .inr (eq_of_tallyAt_pos h)

/-- A device that owes its mate a copy may wait at its own barrier. -/
theorem mayWait_bar (c : Dev nD) :
    (levAts L lv : sProp 𝕄) ⊢ MayWait (c : Thread nD τ) (.reg barS) () (tallyAt (recvCell (mate c)) () N) :=
  MayOwe.of_cut (L := L) (lev := lv) 1 (fun p hp => by rw [Finset.mem_singleton.mp hp]; exact mem_L c _ _)
    (fun g u hg => by rw [eq_of_tallyAt_pos hg]; exact mem_L _ _ _)
    (fun p hp => by rw [Finset.mem_singleton.mp hp]; exact (lv_bar c).le)
    (fun g u hg => by rw [eq_of_tallyAt_pos hg]; exact (lv_recv (mate c)).symm ▸ (by decide))

/-! ## The ghost state of the talk -/

/-- The invariants of the counters device `c` uses, under names `K`: its own three, its mate's barrier and its mate's `recvS`. -/
def invs (K : GSem nD τ sig → ℕ) (c : Dev nD) : sProp 𝕄 :=
  iprop(cellInv ER (sched m) (K (barCell c)) (barCell c) ∗ cellInv ER (sched m) (K (sendCell c)) (sendCell c)
    ∗ cellInv ER (sched m) (K (recvCell c)) (recvCell c)
    ∗ cellInv ER (sched m) (K (barCell (mate c))) (barCell (mate c)) ∗ cellInv ER (sched m) (K (recvCell (mate c))) (recvCell (mate c)))

instance invs_persistent (K : GSem nD τ sig → ℕ) (c : Dev nD) : BI.Persistent (invs m K c) := by unfold invs; infer_instance

/-- What device `c` has from the launch: its place on its barrier, the rights to open its two copy counters, and the three payments it will make. -/
def ghost (K : GSem nD τ sig → ℕ) (c : Dev nD) : sProp 𝕄 :=
  iprop(invs m K c
    ∗ atPos ER (barCell c) 0 ∅ 0 ∗ openTok ER (sendCell c) ∗ openTok ER (recvCell c)
    ∗ reached ER (barCell (mate c)) 0
    ∗ dutyTok ER (barCell (mate c)) 0 () ∗ dutyTok ER (recvCell (mate c)) 0 () ∗ dutyTok ER (sendCell c) 0 ())

/-- The same once the two copy counters are open. -/
def opened (K : GSem nD τ sig → ℕ) (c : Dev nD) : sProp 𝕄 :=
  iprop(invs m K c
    ∗ atPos ER (barCell c) 0 ∅ 0 ∗ atPos ER (sendCell c) 0 ∅ 0 ∗ atPos ER (recvCell c) 0 ∅ 0
    ∗ reached ER (barCell (mate c)) 0 ∗ reached ER (sendCell c) 0 ∗ reached ER (recvCell c) 0
    ∗ dutyTok ER (barCell (mate c)) 0 () ∗ dutyTok ER (recvCell (mate c)) 0 () ∗ dutyTok ER (sendCell c) 0 ())

/-- After the barrier: the barrier's counter is back at zero, the mate's inbox is in hand, and the copy is still to be made. -/
def shaken (K : GSem nD τ sig → ℕ) (c : Dev nD) : sProp 𝕄 :=
  iprop(invs m K c
    ∗ semVal (barCell c) 0 ∗ atPos ER (sendCell c) 0 ∅ 0 ∗ atPos ER (recvCell c) 0 ∅ 0
    ∗ (∃ f, inboxAt (mate c) f) ∗ reached ER (recvCell (mate c)) 0 ∗ reached ER (sendCell c) 0
    ∗ dutyTok ER (recvCell (mate c)) 0 () ∗ dutyTok ER (sendCell c) 0 ())

/-- A counter of the talk whose only round is over gives its value back: zero. -/
theorem close_cell (κ : ℕ) (g : GSem nD τ sig) :
    iprop(cellInv ER (sched m) κ g ∗ atPos ER g (0 + 1) ∅ 0) ⊢ (|={Set.univ}=> semVal g 0 : sProp 𝕄) :=
  Rounds.cell_close ER (sched m) (Set.mem_univ κ) id (duties_after m g)

end Cert.Rms

end
-- ==== Proof.Blocks.lean ====
module

public import proofs.«01_k».proof.Proof.Protocol
public import Idealize.ShloMosaic.Lib.WritesUnit

/-!
# Filling the row of sums block by block

At grid point `t` the first kernel overwrites columns `768 t … 768 t + 767` of `acc` with the sums of its block. After all eight points `acc` holds
`rowSq`, whatever it held before.
-/

@[expose] public section

noncomputable section

namespace Cert.Rms

open Cert.KernelIdeal Cert.KernelIdeal.Gen
open Idealize.ShloMosaic Idealize.ShloMosaic.TcCoe

variable {F : FTy → Type} [FloatOps F]
variable (m : (ℓ : Loc nD τ sig) → Buf (Elt F) ℓ)

/-- The first point, and no other, meets the mate at the barrier. -/
theorem cond1_iff : ∀ t : Fin grid0.N, k0_cond1 (grid0.coords t) = 1#1 ↔ t.val = 0 := by decide +kernel
/-- The last point, and no other, exchanges the rows. -/
theorem cond2_iff : ∀ t : Fin grid0.N, k0_cond2 (grid0.coords t) = 1#1 ↔ t.val = 7 := by decide +kernel
/-- Point `t` writes at column `768 t`. -/
theorem off1_eq : ∀ t : Fin grid0.N, k0_off1 (grid0.coords t) = ![0, 768 * t.val] := by decide +kernel

/-- `acc` after a point has stored its block's sums into it. -/
def addBlock (i : grid0.Coords) (f : S1x6144.Idx → Elt F .f32) (X : S768x2048.Idx → Elt F .f32) : S1x6144.Idx → Elt F .f32 :=
  acc.view.writes (Elt F) f [⟨Rect.unit (s := S1x6144) (k0_off1 i) S1x768.size (k0_off1_inb i), k0_pay1 X⟩]

/-- The first `n` blocks of `f` are filled: there it holds device `c`'s row sums. -/
def Filled (c : Dev nD) (n : ℕ) (f : S1x6144.Idx → Elt F .f32) : Prop := ∀ y : S1x6144.Idx, (y 1).val < 768 * n → f y = rowSq m c y

/-- Nothing needs to be filled at the start. -/
theorem filled_zero (c : Dev nD) (f : S1x6144.Idx → Elt F .f32) : Filled m c 0 f := fun _ h => absurd h (Nat.not_lt_zero _)

/-- Outside its own block a point leaves `acc` as it was … -/
theorem addBlock_of_lt (t : Fin grid0.N) (f : S1x6144.Idx → Elt F .f32) (X : S768x2048.Idx → Elt F .f32) (y : S1x6144.Idx)
    (hlt : (y 1).val < 768 * t.val) : addBlock (grid0.coords t) f X y = f y := by
  unfold addBlock
  generalize k0_pay1 X = w
  have h := View.read_writes_cons_unit_of_not_mem acc.view f (k0_off1_inb (grid0.coords t)) w [] y (off1_eq t) 1 (.inl hlt)
  rw [View.writes_nil] at h
  simpa only [Memref.view_whole, View.read_whole] using h

/-- … and in it the block's payload stands. -/
theorem addBlock_of_mem (t : Fin grid0.N) (f : S1x6144.Idx → Elt F .f32) (X : S768x2048.Idx → Elt F .f32) (y : S1x6144.Idx)
    (ht : (y 1).val / 768 = t.val) : addBlock (grid0.coords t) f X y = k0_pay1 X (inBlock (y 1)) := by
  unfold addBlock
  generalize k0_pay1 X = w
  have h0 : (y 0).val = 0 := Nat.lt_one_iff.mp (y 0).isLt
  have h := View.read_writes_cons_unit_of_mem acc.view f (k0_off1_inb (grid0.coords t)) w [] y (inBlock (y 1)) (off1_eq t) fun a => by
    match a with
    | ⟨0, _⟩ => show (y 0).val = 0 + 0; omega
    | ⟨1, _⟩ => show (y 1).val = 768 * t.val + (y 1).val % 768; omega
  simpa only [Memref.view_whole, View.read_whole] using h

/-- Point `t` fills block `t` and keeps the blocks before it. -/
theorem filled_succ (c : Dev nD) (t : Fin grid0.N) {f : S1x6144.Idx → Elt F .f32} (hf : Filled m c t.val f) :
    Filled m c (t.val + 1) (addBlock (grid0.coords t) f (tile m c t)) := by
  intro y hy
  by_cases hlt : (y 1).val < 768 * t.val
  · rw [addBlock_of_lt t f _ y hlt, hf y hlt]
  · have ht : (y 1).val / 768 = t.val := by omega
    have hp : pointOf (y 1) = t := Fin.ext ht
    rw [addBlock_of_mem t f _ y ht]
    unfold rowSq
    rw [hp]

/-- When all eight blocks are filled the row holds exactly the row sums. -/
theorem filled_all (c : Dev nD) {f : S1x6144.Idx → Elt F .f32} (hf : Filled m c 8 f) : f = rowSq m c :=
  funext fun y => hf y (y 1).isLt

end Cert.Rms

end
-- ==== Proof.Steps.lean ====
module

public import proofs.«01_k».proof.Proof.Blocks
public import Idealize.ShloMosaic.Lib.Pipeline.ValueKit

/-!
# One grid point of the first kernel

* the first point meets the mate at the barrier and then stores its block's sums;
* a middle point only stores its block's sums;
* the last point stores its block's sums, sends the finished row to the mate, waits until its own copy has left and the mate's has landed, and
  writes the sum of the two rows to the result.
-/

@[expose] public section

noncomputable section

namespace Cert.Rms

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- No variant is used. -/
abbrev 𝒱₀ : Variants := Variants.none

/-- The kernel's semaphore operands are the two copy counters, and the barrier it takes is the barrier. -/
theorem sem2_eq : (cc0_scratch2 : DmaSems sig S_).sem = sendS := rfl
theorem sem3_eq : (cc0_scratch3 : DmaSems sig S_).sem = recvS := rfl
theorem semB_eq : (SemArray.scalar (sig.barrier 0 rfl) : Sems sig S_).sem = barS := rfl
/-- The barrier's word of one is the number one. -/
theorem word_one : (1#32 : BitVec 32).toInt = 1 := by decide

/-- The first kernel's body on two staging buffers. -/
abbrev body (i : grid0.Coords) (arg1 : Memref sig .tc .vmem S768x2048 .f32) (harg1 : arg1.IsWhole)
    (arg2 : Memref sig .tc .vmem S1x6144 .f32) (harg2 : arg2.IsWhole) : Prog (TpuEff nD τ sig (Elt F) Λ₀ .tc) PUnit :=
  cc0_body i arg1 harg1 arg2 harg2 acc (Memref.isWhole_whole _) inbox (Memref.isWhole_whole _) cc0_scratch2 cc0_scratch3

/-- The load of a whole block reads the block. -/
theorem load_block (arg1 : Memref sig .tc .vmem S768x2048 .f32) (g : arg1.view.ty.Contents (Elt F)) :
    arg1.view.readAt (Elt F) (Rect.unit (s := S768x2048) ![0, 0] S768x2048.size inb_S768x2048_S768x2048_0_0).toLoadRect g
      = arg1.view.read (Elt F) g :=
  View.ld_unit_lit inb_S768x2048_S768x2048_0_0 (arg1.view.read (Elt F) g) (by decide)

/-- The load of a whole row reads the row. -/
theorem load_row (r : Memref sig .tc .vmem S1x6144 .f32) (g : r.view.ty.Contents (Elt F)) :
    r.view.readAt (Elt F) (Rect.unit (s := S1x6144) ![0, 0] S1x6144.size inb_S1x6144_S1x6144_0_0).toLoadRect g
      = r.view.read (Elt F) g :=
  View.ld_unit_lit inb_S1x6144_S1x6144_0_0 (r.view.read (Elt F) g) (by decide)

/-- What the store of a block's sums leaves in `acc`, the block being what was loaded. -/
theorem stored_eq (c : Dev nD) (i : grid0.Coords) (arg1 : Memref sig .tc .vmem S768x2048 .f32) (g : arg1.view.ty.Contents (Elt F))
    (f : S1x6144.Idx → Elt F .f32) :
    (acc.view.loc (c : Thread nD τ) ↦[acc.view.set]{fullShare} acc.view.writes (Elt F) f
        [⟨Rect.unit (s := S1x6144) (k0_off1 i) S1x768.size (k0_off1_inb i),
          k0_pay1 (arg1.view.readAt (Elt F)
            (Rect.unit (s := S768x2048) ![0, 0] S768x2048.size inb_S768x2048_S768x2048_0_0).toLoadRect g)⟩] : sProp 𝕄)
      = accAt c (addBlock i f (arg1.view.read (Elt F) g)) := by
  rw [load_block]; rfl

variable (c : Dev nD) (i : grid0.Coords)
  (arg1 : Memref sig .tc .vmem S768x2048 .f32) (harg1 : arg1.IsWhole) (arg2 : Memref sig .tc .vmem S1x6144 .f32) (harg2 : arg2.IsWhole)
  (X : S768x2048.Idx → Elt F .f32) (f : S1x6144.Idx → Elt F .f32) (K : GSem nD τ sig → ℕ) (W : Waits sig Unit)

set_option maxHeartbeats 1000000 in
set_option maxRecDepth 4000 in
/-- A middle point: the block is read, its sums are stored, nothing else moves. -/
theorem step_mid (h1 : ¬ k0_cond1 i = 1#1) (h2 : ¬ k0_cond2 i = 1#1) (Q : PUnit → sProp 𝕄) :
    iprop(owns c arg1 fullShare X ∗ accAt c f ∗ (iprop(owns c arg1 fullShare X ∗ accAt c (addBlock i f X)) -∗ Q ⟨⟩))
      ⊢ wp frame (wpE (defs₀ (F := F)) 𝒱₀ c none) Set.univ (body i arg1 harg1 arg2 harg2) Q := by
  simp only [body, cc0_body_eq_skeleton]; unfold cc0_body_skel; unfold owns
  simp only [wp_deviceId, dif_neg h1, dif_neg h2, Prog.lift, Prog.bind_op, Prog.bind_ret, Prog.pure_eq_ret]
  iintro ⟨⟨%g1, %hg1, H1⟩, HA, Hk⟩
  subst hg1
  sl_exec
  rw [wp_ret]; imodintro
  iapply Hk
  isplitl [H1]
  · iexists _; isplitr; swap; iexact H1; ipureintro; rfl
  iapply (Entails.of_eq (stored_eq c i arg1 g1 f)) $$ HA

set_option maxHeartbeats 1000000 in
set_option maxRecDepth 4000 in
/-- The first point: the device gives its inbox away at the mate's barrier, takes the mate's inbox at its own, and stores its block's sums. It
    still owes the mate the copy. -/
theorem step_first (h1 : k0_cond1 i = 1#1) (h2 : ¬ k0_cond2 i = 1#1) (Q : PUnit → sProp 𝕄) :
    iprop(opened m K c ∗ cred (tallyAt (barCell c) () 1) ∗ levAts L lv ∗ owes (c : Thread nD τ) (owed₀ c) W
        ∗ owns c arg1 fullShare X ∗ accAt c f ∗ (∃ g, inboxAt c g)
        ∗ (iprop(shaken m K c ∗ (∃ W', owes (c : Thread nD τ) (tallyAt (recvCell (mate c)) () N) W')
            ∗ owns c arg1 fullShare X ∗ accAt c (addBlock i f X)) -∗ Q ⟨⟩))
      ⊢ wp frame (wpE (defs₀ (F := F)) 𝒱₀ c none) Set.univ (body i arg1 harg1 arg2 harg2) Q := by
  simp only [body, cc0_body_eq_skeleton]; unfold cc0_body_skel
  simp only [wp_deviceId, dif_pos h1, dif_neg h2, semSignalWord, semWaitWord, semB_eq, word_one, dev1_eq, Prog.lift, Prog.bind_op, Prog.bind_ret, Prog.pure_eq_ret]
  unfold opened invs
  iintro ⟨⟨⟨#HIb, #HIs, #HIr, #HIbm, #HIrm⟩, HatB, HatS, HatR, #HrBm, #HrS, #HrR, HtB, HtR, HtS⟩, HcB, #Hlev, HO, HX, HA, ⟨%g, Hin⟩, Hk⟩
  iapply (Rounds.wp_signal 𝒱₀ ER (sched m) (c : Thread nD τ) none (dst := (mate c : Thread nD τ)) (sem := barS) (r := 0) (d := ())
      (κ := K (barCell (mate c))) (by rw [duties_bar]; exact Finset.mem_singleton_self _) (amount_bar m (mate c) ()) ()
      (tallyAt (recvCell (mate c)) () N) rfl) $$ [HO HtB Hin]
  · isplitr; · iexact HIbm
    isplitl [HO]; · iexact HO
    isplitl [HtB]; · iexact HtB
    isplitl [Hin]
    · rw [payload_bar]; unfold barPay; rw [mate_mate]
      isplitl [Hin]; · iexists g; iexact Hin
      iexact HrR
    · iexact HrBm
  iintro HO
  iapply (Rounds.wp_wait_rest_token 𝒱₀ ER (sched m) (c : Thread nD τ) none (κ := K (barCell c))
      (wpE_semWait_eq 𝒱₀ (c : Thread nD τ) none Set.univ) (Set.mem_univ _) () (O := tallyAt (recvCell (mate c)) () N) (W := W) (R := 0) (m := 0)
      (T := ∅) ((Nat.zero_add 1).trans (expect_bar m c).symm)) $$ [HcB HO HatB]
  · isplitr; · iexact HIb
    isplitl [HcB]; · iexact HcB
    isplitl [HO]; · iexact HO
    isplitr; · iapply (mayWait_bar c); iexact Hlev
    iexact HatB
  iintro ⟨HO, HatB, -, Hpay⟩
  ihave Hp := (Entails.of_eq (rest_of_single m (duties_bar m c) (payload_bar m c ()))) $$ Hpay
  unfold barPay
  icases Hp with ⟨Hmate, #HrM⟩
  imod (close_cell m (K (barCell c)) (barCell c)) $$ [HatB] with Hb0
  · isplitr; · iexact HIb
    iexact HatB
  unfold owns
  icases HX with ⟨%g1, %hg1, H1⟩
  subst hg1
  sl_exec
  rw [wp_ret]; imodintro
  iapply Hk
  isplitl [HatS HatR HtR HtS Hb0 Hmate]
  · unfold shaken invs
    isplitr
    · isplitr; · iexact HIb
      isplitr; · iexact HIs
      isplitr; · iexact HIr
      isplitr; · iexact HIbm
      iexact HIrm
    isplitl [Hb0]; · iexact Hb0
    isplitl [HatS]; · iexact HatS
    isplitl [HatR]; · iexact HatR
    isplitl [Hmate]; · iexact Hmate
    isplitr; · iexact HrM
    isplitr; · iexact HrS
    isplitl [HtR] <;> iassumption
  isplitl [HO]; · iexists _; iexact HO
  isplitl [H1]
  · iexists _; isplitr; swap; iexact H1; ipureintro; rfl
  iapply (Entails.of_eq (stored_eq c i arg1 g1 f)) $$ HA

end Cert.Rms

end
-- ==== Proof.LastStep.lean ====
module

public import proofs.«01_k».proof.Proof.Steps
public import Idealize.ShloMosaic.Lib.VecWindow

/-!
# The last grid point of the first kernel

It stores its block's sums, sends the finished row to the mate, waits until its own copy has left and the mate's has landed, and writes the sum of
the two rows to the result.
-/

@[expose] public section

noncomputable section

namespace Cert.Rms

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- A copy of `acc` carries the same credit as a copy of the inbox: the rows have one size. -/
theorem credit_acc : acc.view.dmaCredit = N := rfl

/-- The sum of the two devices' rows: what the first kernel leaves in its result. -/
def sumSq (c : Dev nD) : S1x6144.Idx → Elt F .f32 := k0_pay2 (rowSq m c) (rowSq m (mate c))

/-- What the last store leaves in the result's buffer, read back: the sum of the row in `acc` and the row in the inbox. -/
theorem stored_sum (c : Dev nD) (arg2 : Memref sig .tc .vmem S1x6144 .f32) (g : arg2.view.ty.Contents (Elt F)) :
    arg2.view.read (Elt F) (arg2.view.writes (Elt F) g
        [⟨Rect.unit (s := S1x6144) ![0, 0] S1x6144.size inb_S1x6144_S1x6144_0_0,
          k0_pay2
            (acc.view.readAt (Elt F) (Rect.unit (s := S1x6144) ![0, 0] S1x6144.size inb_S1x6144_S1x6144_0_0).toLoadRect (rowSq m c))
            (inbox.view.readAt (Elt F) (Rect.unit (s := S1x6144) ![0, 0] S1x6144.size inb_S1x6144_S1x6144_0_0).toLoadRect
              (rowSq m (mate c)))⟩])
      = sumSq m c := by
  rw [load_row acc, load_row inbox]
  exact View.read_writes_full arg2.view g inb_S1x6144_S1x6144_0_0 _ []

variable (c : Dev nD) (i : grid0.Coords)
  (arg1 : Memref sig .tc .vmem S768x2048 .f32) (harg1 : arg1.IsWhole) (arg2 : Memref sig .tc .vmem S1x6144 .f32) (harg2 : arg2.IsWhole)
  (X : S768x2048.Idx → Elt F .f32) (f : S1x6144.Idx → Elt F .f32) (K : GSem nD τ sig → ℕ) (W : Waits sig Unit)

set_option maxHeartbeats 1000000 in
set_option maxRecDepth 4000 in
/-- The last point: once its own block has completed the row, the device sends it, takes back its own and the mate's, and writes their sum. All
    three counters are back at zero and nothing is owed. -/
theorem step_last (h1 : ¬ k0_cond1 i = 1#1) (h2 : k0_cond2 i = 1#1) (hfull : addBlock i f X = rowSq m c) (Q : PUnit → sProp 𝕄) :
    iprop(shaken m K c ∗ cred (tallyAt (recvCell c) () N) ∗ owes (c : Thread nD τ) (tallyAt (recvCell (mate c)) () N) W
        ∗ owns c arg1 fullShare X ∗ (∃ d, owns c arg2 fullShare d) ∗ accAt c f
        ∗ (iprop(semVal (barCell c) 0 ∗ semVal (sendCell c) 0 ∗ semVal (recvCell c) 0
            ∗ (∃ W', owes (c : Thread nD τ) (0 : CellTallies nD τ sig Unit) W')
            ∗ owns c arg1 fullShare X ∗ owns c arg2 fullShare (sumSq m c) ∗ (∃ g, accAt c g) ∗ (∃ g, inboxAt c g)) -∗ Q ⟨⟩))
      ⊢ wp frame (wpE (defs₀ (F := F)) 𝒱₀ c none) Set.univ (body i arg1 harg1 arg2 harg2) Q := by
  simp only [body, cc0_body_eq_skeleton]; unfold cc0_body_skel
  simp only [wp_deviceId, dif_neg h1, dif_pos h2, sem2_eq, sem3_eq, Prog.lift, Prog.bind_op, Prog.bind_ret, Prog.pure_eq_ret]
  have hp := dev2_eq c (k0_dev2_lt i c h2)
  unfold shaken invs
  iintro ⟨⟨⟨#HIb, #HIs, #HIr, #HIbm, #HIrm⟩, Hb0, HatS, HatR, ⟨%fm, Hmate⟩, #HrM, #HrS, HtR, HtS⟩, HcR, HO, HX, ⟨%d2, HY⟩, HA, Hk⟩
  unfold owns
  icases HX with ⟨%g1, %hg1, H1⟩
  subst hg1
  icases HY with ⟨%g2, -, H2⟩
  sl_exec
  ihave HA' := (Entails.of_eq ((stored_eq c i arg1 g1 f).trans (by rw [hfull]))) $$ HA
  iapply (Rounds.wp_send_pointsTo 𝒱₀ ER (sched m) (c : Thread nD τ) none
      (c' := ((⟨k0_dev2 c, k0_dev2_lt i c h2⟩ : Dev nD) : Thread nD τ)) (src := acc) (dst := inbox)
      (sS := .dma sendS) (sem := .dma recvS) (q := fullShare) (fs := rowSq m c) (κ₁ := K (sendCell c)) (κ₂ := K (recvCell (mate c)))
      (r₁ := 0) (r₂ := 0) (d₁ := ()) (d₂ := ()) (fd := fm)
      (by rw [duties_send]; exact Finset.mem_singleton_self _) (by rw [duties_recv]; exact Finset.mem_singleton_self _)
      () () N rfl (amount_send m c ()) (amount_recv m _ ()) 0 (by rw [zero_add, hp]) (W := W)
      (by rw [payload_send]; exact BI.Entails.refl _)
      (by rw [payload_recv]; unfold recvPay; rw [landed_eq, hp, mate_mate])) $$ [HA' Hmate HO HtS HtR]
  · rw [hp]
    isplitr; · iexact HIs
    isplitr; · iexact HIrm
    isplitl [HA']; · iexact HA'
    isplitl [Hmate]; · iexact Hmate
    isplitl [HO]; · iexact HO
    isplitl [HtS]; · iexact HtS
    isplitr; · iexact HrS
    isplitl [HtR]; · iexact HtR
    iexact HrM
  iintro ⟨HcS, HO⟩
  iapply (Rounds.wp_wait_rest_token 𝒱₀ ER (sched m) (c : Thread nD τ) none (κ := K (sendCell c))
      (wpE_waitDma2_eq 𝒱₀ (c : Thread nD τ) none Set.univ (dst := acc)) (Set.mem_univ _) () (O := 0) (W := W) (R := 0) (m := 0)
      (T := ∅) ((Nat.zero_add _).trans (credit_acc.trans (expect_send m c).symm))) $$ [HcS HO HatS]
  · isplitr; · iexact HIs
    isplitl [HcS]; · rw [credit_acc]; iexact HcS
    isplitl [HO]; · iexact HO
    isplitr; · rw [MayWait_zero]; iempintro
    iexact HatS
  iintro ⟨HO, HatS, -, Hpay⟩
  ihave HA := (Entails.of_eq ((rest_of_single m (duties_send m c) (payload_send m c ())).trans (by unfold sendPay; rfl))) $$ Hpay
  iapply (Rounds.wp_wait_rest_token 𝒱₀ ER (sched m) (c : Thread nD τ) none (κ := K (recvCell c))
      (wpE_waitDma2_eq 𝒱₀ (c : Thread nD τ) none Set.univ (dst := inbox)) (Set.mem_univ _) () (O := 0) (W := insert (SemLoc.dma sendS, ()) W) (R := 0) (m := 0)
      (T := ∅) ((Nat.zero_add _).trans (expect_recv m c).symm)) $$ [HcR HO HatR]
  · isplitr; · iexact HIr
    isplitl [HcR]; · iexact HcR
    isplitl [HO]; · iexact HO
    isplitr; · rw [MayWait_zero]; iempintro
    iexact HatR
  iintro ⟨HO, HatR, -, Hpay⟩
  ihave HB := (Entails.of_eq ((rest_of_single m (duties_recv m c) (payload_recv m c ())).trans (by unfold recvPay; rfl))) $$ Hpay
  imod (close_cell m (K (sendCell c)) (sendCell c)) $$ [HatS] with Hs0
  · isplitr; · iexact HIs
    iexact HatS
  imod (close_cell m (K (recvCell c)) (recvCell c)) $$ [HatR] with Hr0
  · isplitr; · iexact HIr
    iexact HatR
  sl_exec
  rw [wp_ret]; imodintro
  iapply Hk
  isplitl [Hb0]; · iexact Hb0
  isplitl [Hs0]; · iexact Hs0
  isplitl [Hr0]; · iexact Hr0
  isplitl [HO]; · iexists _; iexact HO
  isplitl [H1]
  · iexists _; isplitr; swap; iexact H1; ipureintro; rfl
  isplitl [H2]
  · iexists _; isplitr; swap; iexact H2
    ipureintro
    exact (stored_sum m c arg2 g2)
  isplitl [HA]; · iexists _; iexact HA
  iexists _; iexact HB

end Cert.Rms

end
-- ==== Proof.Body0.lean ====
module

public import proofs.«01_k».proof.Proof.LastStep

/-!
# The first kernel, point by point

What the first kernel's pipeline is run with: each window's contents, what a device holds between two points, and what it still owes there. Every
point of the grid then does what `Steps` and `LastStep` prove of it.
-/

@[expose] public section

noncomputable section

namespace Cert.Rms

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ)

/-- The two counters of the copy are the first kernel's own; the barrier is nobody's. -/
abbrev osem : Fin 2 → SemLoc sig := ![.dma sendS, .dma recvS]

/-- The buffers that the first kernel leaves alone: the second kernel's staging buffers. -/
def others (c : Dev nD) : sProp 𝕄 :=
  bigSepL [cc1_stg0_0, cc1_stg0_1, cc1_stg1_0, cc1_stg2_0, cc1_stg2_1, cc1_stg3_0, cc1_stg3_1]
    fun b => iprop(∃ f : Buf (Elt F) ((c : Thread nD τ).loc b), ((c : Thread nD τ).loc b) ↦{fullShare} f)

/-- The scoped buffers that no window of the first kernel stages: `acc`, the inbox and the others. -/
theorem scoped0 (c : Dev nD) :
    (Pipeline.scopedRest (Ix := Unit) (Name := ℕ) (U := UU) (Lvl := ℕ) (Val := Elt F) spec0 c : sProp 𝕄)
      = iprop((∃ f, accAt c f) ∗ (∃ f, inboxAt c f) ∗ others c) := by
  rw [scopedRest0_eq]
  simp only [accAt_eq, inboxAt_eq]
  rfl

/-- What a device brings to the first point of the talk. -/
def entering (c : Dev nD) : sProp 𝕄 :=
  iprop((∃ K, opened m K c) ∗ cred (tallyAt (barCell c) () 1) ∗ cred (tallyAt (recvCell c) () N) ∗ levAts L lv)

/-- What a device holds before point `n` (after the point before it). At the start all of the talk is ahead; in between the row is being filled
    and the copy is still owed; at the end the talk is over. -/
def inv0 (c : Dev nD) (n : ℕ) : sProp 𝕄 :=
  iprop((if n = 0 then iprop(entering m c ∗ (∃ f, accAt c f) ∗ (∃ f, inboxAt c f))
      else if n = 8 then iprop((semVal (barCell c) 0 ∗ semVal (sendCell c) 0 ∗ semVal (recvCell c) 0) ∗ (∃ f, accAt c f) ∗ (∃ f, inboxAt c f))
      else iprop((∃ K, shaken m K c) ∗ cred (tallyAt (recvCell c) () N) ∗ (∃ f, ⌜Filled m c n f⌝ ∗ accAt c f)))
    ∗ others c ∗ ∃ r, prngReg c r)

/-- What a device owes before point `n`. -/
def due0 (c : Dev nD) (n : ℕ) : CellTallies nD τ sig Unit :=
  if n = 0 then owed₀ c else if n = 8 then 0 else tallyAt (recvCell (mate c)) () N

/-- The first kernel's data: the block of `x` in the first window, the summed row in the second. -/
def dat0 (c : Dev nD) : Dat τ (Elt F) Unit ℕ UU ℕ cfg0 c where
  A w := m ((cfg0.win w).arr.view.loc (c : Thread nD τ))
  after w t := match w with
    | ⟨0, _⟩ => tile m c t
    | ⟨1, _⟩ => sumSq m c
  Φ t := inv0 m c t.val
  q _ := fullShare
  owed t := due0 c t.val

/-- What a device owes, put into the form the pipeline keeps it in. -/
theorem owesAt_intro {cfg : Pipeline.Cfg sig Λ₀} {c : Dev nD} (dat : Dat τ (Elt F) Unit ℕ UU ℕ cfg c) (t : Fin (cfg.N + 1))
    (O : CellTallies nD τ sig Unit) (h0 : dat.owed t = O) (hr : dat.recorded t = Set.univ) :
    iprop(∃ W, owes (c : Thread nD τ) O W) ⊢ (dat.owesAt () t : sProp 𝕄) := by
  unfold Dat.owesAt Pipeline.owesWithin Dat.bound
  rw [h0, hr]
  iintro ⟨%W, HO⟩
  iexists W
  isplitr
  · ipureintro; exact fun _ _ => Or.inl trivial
  iexact HO

/-- … and taken out of it. -/
theorem owesAt_elim {cfg : Pipeline.Cfg sig Λ₀} {c : Dev nD} (dat : Dat τ (Elt F) Unit ℕ UU ℕ cfg c) (t : Fin (cfg.N + 1))
    (O : CellTallies nD τ sig Unit) (h0 : dat.owed t = O) :
    (dat.owesAt () t : sProp 𝕄) ⊢ iprop(∃ W, owes (c : Thread nD τ) O W) := by
  unfold Dat.owesAt Pipeline.owesWithin
  rw [h0]
  iintro ⟨%W, -, HO⟩
  iexists W
  iexact HO

/-- The block of `x` that the body finds is the array's block at that point. -/
theorem before0_0 (c : Dev nD) (t : Fin cfg0.N) (d) : (dat0 m c).before 0 t d = tile m c t :=
  ((dat0 m c).before_fetched 0 t (fetch0_0 t) d).trans rfl

/-- The grid has eight points. -/
theorem lt_eight (t : Fin cfg0.N) : t.val < 8 := lt_of_lt_of_eq t.isLt N_0

/-- Before the last point the result's buffer is not touched. -/
theorem idle_of_lt (t : Fin cfg0.N) (h : t.val ≠ 7) : cfg0.idle 1 (cfg0.grid.coords t) = true ∧ (cfg0.win 1).flush t = false := by
  constructor
  · show (!(k0_cond2 (grid0.coords t) == 1#1)) = true
    rw [Bool.not_eq_true', beq_eq_false_iff_ne]
    exact fun e => h ((cond2_iff t).mp e)
  · rw [← Bool.not_eq_true, flush0_1]
    have := lt_eight t
    omega

/-- At the last point it is written. -/
theorem busy_last (t : Fin cfg0.N) (h : t.val = 7) : cfg0.idle 1 (cfg0.grid.coords t) = false := by
  show (!(k0_cond2 (grid0.coords t) == 1#1)) = false
  rw [Bool.not_eq_false', beq_iff_eq]
  exact (cond2_iff t).mpr h

/-- One point, the program named: from the invariant before it, what is owed and the two buffers, to the invariant after it. -/
theorem point0_first (c : Dev nD) (t : Fin cfg0.N) (h : t.val = 0) (arg1 : Memref sig .tc .vmem S768x2048 .f32) (harg1 : arg1.IsWhole)
    (arg2 : Memref sig .tc .vmem S1x6144 .f32) (harg2 : arg2.IsWhole) (P : sProp 𝕄) :
    iprop(inv0 m c t.val ∗ (∃ W, owes (c : Thread nD τ) (due0 c t.val) W) ∗ owns c arg1 fullShare (tile m c t) ∗ P)
      ⊢ wp frame (wpE (defs₀ (F := F)) 𝒱₀ c none) Set.univ (body (grid0.coords t) arg1 harg1 arg2 harg2) fun _ =>
        iprop(inv0 m c (t.val + 1) ∗ (∃ W, owes (c : Thread nD τ) (due0 c (t.val + 1)) W) ∗ owns c arg1 fullShare (tile m c t) ∗ P) := by
  have e1 : k0_cond1 (grid0.coords t) = 1#1 := (cond1_iff t).mpr h
  have e2 : ¬ k0_cond2 (grid0.coords t) = 1#1 := fun e => by have := (cond2_iff t).mp e; omega
  have hs : ∀ f, Filled m c (t.val + 1) (addBlock (grid0.coords t) f (tile m c t)) := fun f =>
    filled_succ m c t (by rw [h]; exact filled_zero m c f)
  unfold inv0 due0 entering
  rw [if_pos h, if_pos h, if_neg (by omega), if_neg (by omega), if_neg (by omega), if_neg (by omega)]
  iintro ⟨⟨⟨⟨⟨%K, Ho⟩, HcB, HcR, #Hlev⟩, ⟨%f, HA⟩, HB⟩, Hot, Hreg⟩, ⟨%W, HO⟩, HX, HP⟩
  iapply (step_first m c (grid0.coords t) arg1 harg1 arg2 harg2 (tile m c t) f K W e1 e2 _)
  isplitl [Ho]; · iexact Ho
  isplitl [HcB]; · iexact HcB
  isplitr; · iexact Hlev
  isplitl [HO]; · iexact HO
  isplitl [HX]; · iexact HX
  isplitl [HA]; · iexact HA
  isplitl [HB]; · iexact HB
  iintro ⟨Hsh, HO, HX, HA⟩
  isplitl [Hsh HcR HA Hot Hreg]
  · isplitl [Hsh HcR HA]
    · isplitl [Hsh]; · iexists K; iexact Hsh
      isplitl [HcR]; · iexact HcR
      iexists _
      isplitr; swap; · iexact HA
      ipureintro; exact hs f
    isplitl [Hot]; · iexact Hot
    iexact Hreg
  isplitl [HO]; · iexact HO
  isplitl [HX] <;> iassumption

/-- A middle point. -/
theorem point0_mid (c : Dev nD) (t : Fin cfg0.N) (h0 : t.val ≠ 0) (h7 : t.val ≠ 7) (arg1 : Memref sig .tc .vmem S768x2048 .f32) (harg1 : arg1.IsWhole)
    (arg2 : Memref sig .tc .vmem S1x6144 .f32) (harg2 : arg2.IsWhole) (P : sProp 𝕄) :
    iprop(inv0 m c t.val ∗ (∃ W, owes (c : Thread nD τ) (due0 c t.val) W) ∗ owns c arg1 fullShare (tile m c t) ∗ P)
      ⊢ wp frame (wpE (defs₀ (F := F)) 𝒱₀ c none) Set.univ (body (grid0.coords t) arg1 harg1 arg2 harg2) fun _ =>
        iprop(inv0 m c (t.val + 1) ∗ (∃ W, owes (c : Thread nD τ) (due0 c (t.val + 1)) W) ∗ owns c arg1 fullShare (tile m c t) ∗ P) := by
  have hN : t.val < 8 := lt_eight t
  have e1 : ¬ k0_cond1 (grid0.coords t) = 1#1 := fun e => h0 ((cond1_iff t).mp e)
  have e2 : ¬ k0_cond2 (grid0.coords t) = 1#1 := fun e => h7 ((cond2_iff t).mp e)
  have hs : ∀ f, Filled m c t.val f → Filled m c (t.val + 1) (addBlock (grid0.coords t) f (tile m c t)) := fun f => filled_succ m c t
  unfold inv0 due0
  rw [if_neg h0, if_neg (by omega), if_neg h0, if_neg (by omega), if_neg (by omega), if_neg (by omega), if_neg (by omega), if_neg (by omega)]
  iintro ⟨⟨⟨Hsh, HcR, ⟨%f, %hf, HA⟩⟩, Hot, Hreg⟩, HO, HX, HP⟩
  iapply (step_mid c (grid0.coords t) arg1 harg1 arg2 harg2 (tile m c t) f e1 e2 _)
  isplitl [HX]; · iexact HX
  isplitl [HA]; · iexact HA
  iintro ⟨HX, HA⟩
  isplitl [Hsh HcR HA Hot Hreg]
  · isplitl [Hsh HcR HA]
    · isplitl [Hsh]; · iexact Hsh
      isplitl [HcR]; · iexact HcR
      iexists _
      isplitr; swap; · iexact HA
      ipureintro; exact hs f hf
    isplitl [Hot]; · iexact Hot
    iexact Hreg
  isplitl [HO]; · iexact HO
  isplitl [HX] <;> iassumption

/-- The last point. -/
theorem point0_last (c : Dev nD) (t : Fin cfg0.N) (h : t.val = 7) (arg1 : Memref sig .tc .vmem S768x2048 .f32) (harg1 : arg1.IsWhole)
    (arg2 : Memref sig .tc .vmem S1x6144 .f32) (harg2 : arg2.IsWhole) :
    iprop(inv0 m c t.val ∗ (∃ W, owes (c : Thread nD τ) (due0 c t.val) W) ∗ owns c arg1 fullShare (tile m c t) ∗ ∃ d, owns c arg2 fullShare d)
      ⊢ wp frame (wpE (defs₀ (F := F)) 𝒱₀ c none) Set.univ (body (grid0.coords t) arg1 harg1 arg2 harg2) fun _ =>
        iprop(inv0 m c (t.val + 1) ∗ (∃ W, owes (c : Thread nD τ) (due0 c (t.val + 1)) W) ∗ owns c arg1 fullShare (tile m c t)
          ∗ owns c arg2 fullShare (sumSq m c)) := by
  have e1 : ¬ k0_cond1 (grid0.coords t) = 1#1 := fun e => by have := (cond1_iff t).mp e; omega
  have e2 : k0_cond2 (grid0.coords t) = 1#1 := (cond2_iff t).mpr h
  have hs : ∀ f, Filled m c t.val f → addBlock (grid0.coords t) f (tile m c t) = rowSq m c := fun f hf =>
    filled_all m c (by have := filled_succ m c t hf; rwa [h] at this)
  unfold inv0 due0
  rw [if_neg (by omega), if_neg (by omega), if_neg (by omega), if_neg (by omega), if_neg (by omega), if_pos (by omega), if_neg (by omega), if_pos (by omega)]
  iintro ⟨⟨⟨⟨%K, Hsh⟩, HcR, ⟨%f, %hf, HA⟩⟩, Hot, Hreg⟩, ⟨%W, HO⟩, HX, HY⟩
  iapply (step_last m c (grid0.coords t) arg1 harg1 arg2 harg2 (tile m c t) f K W e1 e2 (hs f hf) _)
  isplitl [Hsh]; · iexact Hsh
  isplitl [HcR]; · iexact HcR
  isplitl [HO]; · iexact HO
  isplitl [HX]; · iexact HX
  isplitl [HY]; · iexact HY
  isplitl [HA]; · iexact HA
  iintro ⟨Hb, Hs, Hr, HO, HX, HY, HA, HB⟩
  isplitl [Hb Hs Hr HA HB Hot Hreg]
  · isplitl [Hb Hs Hr HA HB]
    · isplitl [Hb Hs Hr]
      · isplitl [Hb]; · iexact Hb
        isplitl [Hs] <;> iassumption
      isplitl [HA] <;> iassumption
    isplitl [Hot]; · iexact Hot
    iexact Hreg
  isplitl [HO]; · iexact HO
  isplitl [HX] <;> iassumption

/-- What the first pipeline's loop asks of its body, at every point: from the invariant, the debt and the two staged buffers to the same a point
    later, the result's buffer written at the last point and left alone before. -/
theorem body0 (c : Dev nD) :
    BodyObligation (dat0 m c) (defs₀ (F := F)) 𝒱₀ () Set.univ := fun t => by
  have e0 : (dat0 m c).owed t.castSucc = due0 c t.val := rfl
  have e1 : (dat0 m c).owed t.succ = due0 c (t.val + 1) := rfl
  have eb : ∀ d, (dat0 m c).before 0 t d = tile m c t := before0_0 m c t
  have ep : (dat0 m c).Φ t.castSucc = inv0 m c t.val := rfl
  have eq : (dat0 m c).Φ t.succ = inv0 m c (t.val + 1) := rfl
  have ea : (dat0 m c).after 0 t = tile m c t := rfl
  have eo : (dat0 m c).after 1 t = sumSq m c := rfl
  have ei : cfg0.idle 0 (cfg0.grid.coords t) = false := rfl
  rw [show (defs₀ (F := F)) .tc cfg0.body (cfg0.bodyArgs t (cfg0.slots t)) = body (grid0.coords t) (win0_0.stage (cfg0.slots t 0))
    (hstage0_0 ((cfg0.slots t 0).cast nbuf0_0)) (win0_1.stage (cfg0.slots t 1)) (hstage0_1 ((cfg0.slots t 1).cast nbuf0_1)) from rfl]
  rw [ep, eq, bigSep_W0, bigSep_W0, ei, ea]
  by_cases h7 : t.val = 7
  · rw [busy_last t h7, eo]
    iintro ⟨HI, HO, ⟨%d, HX⟩, ⟨%e, HY⟩⟩
    rw [eb d]
    ihave HO := (owesAt_elim (dat0 m c) t.castSucc _ e0) $$ HO
    ihave Hw := (point0_last m c t h7 (win0_0.stage (cfg0.slots t 0)) (hstage0_0 ((cfg0.slots t 0).cast nbuf0_0))
      (win0_1.stage (cfg0.slots t 1)) (hstage0_1 ((cfg0.slots t 1).cast nbuf0_1))) $$ [HI HO HX HY]
    · isplitl [HI]; · iexact HI
      isplitl [HO]; · iexact HO
      isplitl [HX]; · iexact HX
      iexists _
      iexact HY
    iapply wp_wand $$ Hw
    iintro %_ ⟨HI, HO, HX, HY⟩
    ihave HO := (owesAt_intro (dat0 m c) t.succ _ e1 rfl) $$ HO
    isplitl [HI]; · iexact HI
    isplitl [HO]; · iexact HO
    isplitl [HX] <;> iassumption
  · obtain ⟨i1, i2⟩ := idle_of_lt t h7
    rw [i1, i2]
    have hp : ∀ P : sProp 𝕄, _ := fun P => (Decidable.em (t.val = 0)).elim
      (fun h => point0_first m c t h (win0_0.stage (cfg0.slots t 0)) (hstage0_0 ((cfg0.slots t 0).cast nbuf0_0))
        (win0_1.stage (cfg0.slots t 1)) (hstage0_1 ((cfg0.slots t 1).cast nbuf0_1)) P)
      (fun h => point0_mid m c t h h7 (win0_0.stage (cfg0.slots t 0)) (hstage0_0 ((cfg0.slots t 0).cast nbuf0_0))
        (win0_1.stage (cfg0.slots t 1)) (hstage0_1 ((cfg0.slots t 1).cast nbuf0_1)) P)
    iintro ⟨HI, HO, ⟨%d, HX⟩, HY⟩
    rw [eb d]
    ihave HO := (owesAt_elim (dat0 m c) t.castSucc _ e0) $$ HO
    ihave Hw := (hp _) $$ [HI HO HX HY]
    · isplitl [HI]; · iexact HI
      isplitl [HO]; · iexact HO
      isplitl [HX]; · iexact HX
      iexact HY
    iapply wp_wand $$ Hw
    iintro %_ ⟨HI, HO, HX, HY⟩
    ihave HO := (owesAt_intro (dat0 m c) t.succ _ e1 rfl) $$ HO
    isplitl [HI]; · iexact HI
    isplitl [HO]; · iexact HO
    isplitl [HX] <;> iassumption

end Cert.Rms

end
-- ==== Proof.Body1.lean ====
module

public import proofs.«01_k».proof.Proof.Body0
public import proofs.«01_k».proof.Proof.Gen.KernelIdeal.Regions
public import Idealize.ShloMosaic.Lib.Pipeline.RegionTalk
public import Idealize.ShloMosaic.Lib.Pipeline.RegionArraysS

/-!
# The second kernel, point by point

What every buffer of a device holds from one part of the program to the next, and the second kernel's point: it reads a block of `x`, the row of
`gamma` and the block's sums, and writes the block scaled.
-/

@[expose] public section

noncomputable section

namespace Cert.Rms

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ)

/-- A device's buffers at the start. -/
abbrev W0 (c : Dev nD) : Valuation τ sig (Elt F) := V0 m c

/-- … after the first kernel: its result holds what its pipeline wrote. -/
def W1 (c : Dev nD) : Valuation τ sig (Elt F) := Pipeline.afterRegion (dat0 m c) (W0 m c)

/-- … after `gamma` has been made a row. -/
def W2 (c : Dev nD) : Valuation τ sig (Elt F) := StableHlo.after hostOps1 (W1 m c)

/-- The block of 1536 rows of `x` that point `t` reads. -/
def xBlk (c : Dev nD) (t : Fin grid1.N) : S1536x2048.Idx → Elt F .f32 :=
  ((win1 0).blk t).view.read (Elt F) (W2 m c (Proc.devRef .tc main_arg0))

/-- The row of `gamma`, read whole at every point. -/
def gBlk (c : Dev nD) (t : Fin grid1.N) : S1x2048.Idx → Elt F .f32 :=
  ((win1 1).blk t).view.read (Elt F) (W2 m c (Proc.devRef .tc main_v2))

/-- The sums of the block's rows. -/
def sBlk (c : Dev nD) (t : Fin grid1.N) : S1x1536.Idx → Elt F .f32 :=
  ((win1 2).blk t).view.read (Elt F) (W2 m c (Proc.devRef .tc main_v1))

/-- The scaled block. -/
def oBlk (c : Dev nD) (t : Fin grid1.N) : S1536x2048.Idx → Elt F .f32 := k1_pay1 (sBlk m c t) (xBlk m c t) (gBlk m c t)

/-- The second kernel's data: the three input blocks, the scaled block, and between two points only what it does not touch. -/
def dat1 (c : Dev nD) : Dat τ (Elt F) Unit ℕ UU ℕ cfg1 c where
  A w := W2 m c (Proc.devRef .tc (Pipeline.arrRef cfg1.spec w))
  after w t := match w with
    | ⟨0, _⟩ => xBlk m c t
    | ⟨1, _⟩ => gBlk m c t
    | ⟨2, _⟩ => sBlk m c t
    | ⟨3, _⟩ => oBlk m c t
  Φ _ := iprop((∃ r, prngReg c r) ∗ Pipeline.scopedRest (Ix := Unit) (Name := ℕ) (U := UU) (Lvl := ℕ) (Val := Elt F) spec1 c)
  q _ := fullShare
  owed _ := 0

theorem load_sums (r : Memref sig .tc .vmem S1x1536 .f32) (g : r.view.ty.Contents (Elt F)) :
    r.view.readAt (Elt F) (Rect.unit (s := S1x1536) ![0, 0] S1x1536.size inb_S1x1536_S1x1536_0_0).toLoadRect g
      = r.view.read (Elt F) g :=
  View.ld_unit_lit inb_S1x1536_S1x1536_0_0 (r.view.read (Elt F) g) (by decide)

theorem load_x (r : Memref sig .tc .vmem S1536x2048 .f32) (g : r.view.ty.Contents (Elt F)) :
    r.view.readAt (Elt F) (Rect.unit (s := S1536x2048) ![0, 0] S1536x2048.size inb_S1536x2048_S1536x2048_0_0).toLoadRect g
      = r.view.read (Elt F) g :=
  View.ld_unit_lit inb_S1536x2048_S1536x2048_0_0 (r.view.read (Elt F) g) (by decide)

theorem load_gamma (r : Memref sig .tc .vmem S1x2048 .f32) (g : r.view.ty.Contents (Elt F)) :
    r.view.readAt (Elt F) (Rect.unit (s := S1x2048) ![0, 0] S1x2048.size inb_S1x2048_S1x2048_0_0).toLoadRect g
      = r.view.read (Elt F) g :=
  View.ld_unit_lit inb_S1x2048_S1x2048_0_0 (r.view.read (Elt F) g) (by decide)

set_option maxHeartbeats 1000000 in
set_option maxRecDepth 4000 in
/-- A point of the second kernel on its four buffers: the inputs stay, the result's buffer ends at the scaled block. -/
theorem scale_step (c : Dev nD) (i : grid1.Coords) (arg1 : Memref sig .tc .vmem S1536x2048 .f32) (harg1 : arg1.IsWhole)
    (arg2 : Memref sig .tc .vmem S1x2048 .f32) (harg2 : arg2.IsWhole) (arg3 : Memref sig .tc .vmem S1x1536 .f32) (harg3 : arg3.IsWhole)
    (arg4 : Memref sig .tc .vmem S1536x2048 .f32) (harg4 : arg4.IsWhole) (X : S1536x2048.Idx → Elt F .f32) (G : S1x2048.Idx → Elt F .f32)
    (S : S1x1536.Idx → Elt F .f32) (P : sProp 𝕄) :
    iprop(owns c arg1 fullShare X ∗ owns c arg2 fullShare G ∗ owns c arg3 fullShare S ∗ (∃ d, owns c arg4 fullShare d) ∗ P)
      ⊢ wp frame (wpE (defs₀ (F := F)) 𝒱₀ c none) Set.univ (cc1_body i arg1 harg1 arg2 harg2 arg3 harg3 arg4 harg4) fun _ =>
        iprop(owns c arg1 fullShare X ∗ owns c arg2 fullShare G ∗ owns c arg3 fullShare S ∗ owns c arg4 fullShare (k1_pay1 S X G) ∗ P) := by
  rw [cc1_body_eq_skeleton]; unfold cc1_body_skel; unfold owns
  iintro ⟨⟨%g1, %hg1, H1⟩, ⟨%g2, %hg2, H2⟩, ⟨%g3, %hg3, H3⟩, ⟨%d, %g4, -, H4⟩, HP⟩
  subst hg1 hg2 hg3
  sl_exec
  rw [wp_ret]; imodintro
  isplitl [H1]
  · iexists _; isplitr; swap; iexact H1; ipureintro; rfl
  isplitl [H2]
  · iexists _; isplitr; swap; iexact H2; ipureintro; rfl
  isplitl [H3]
  · iexists _; isplitr; swap; iexact H3; ipureintro; rfl
  isplitl [H4]
  · iexists _; isplitr; swap; iexact H4
    ipureintro
    rw [load_sums, load_x, load_gamma]
    exact View.read_writes_full arg4.view g4 inb_S1536x2048_S1536x2048_0_0 _ []
  iexact HP

theorem before1_0 (c : Dev nD) (t : Fin cfg1.N) (d) : (dat1 m c).before 0 t d = xBlk m c t :=
  ((dat1 m c).before_fetched 0 t (fetch1_0 t) d).trans rfl

theorem before1_1 (c : Dev nD) (t : Fin cfg1.N) (d) : (dat1 m c).before 1 t d = gBlk m c t :=
  ((dat1 m c).before_in_eq_fetched 1 rfl (fun _ => rfl) (fun _ _ _ => rfl) (fun _ => rfl) t d).trans rfl

theorem before1_2 (c : Dev nD) (t : Fin cfg1.N) (d) : (dat1 m c).before 2 t d = sBlk m c t :=
  ((dat1 m c).before_fetched 2 t (fetch1_2 t) d).trans rfl

/-- What the second pipeline's loop asks of its body, at every point. -/
theorem body1 (c : Dev nD) : BodyObligation (dat1 m c) (defs₀ (F := F)) 𝒱₀ () Set.univ := fun t => by
  have e0 : (dat1 m c).owed t.castSucc = 0 := rfl
  have e1 : (dat1 m c).owed t.succ = 0 := rfl
  have ep : (dat1 m c).Φ t.succ = (dat1 m c).Φ t.castSucc := rfl
  rw [show (defs₀ (F := F)) .tc cfg1.body (cfg1.bodyArgs t (cfg1.slots t)) = bodyAt1 t from rfl]
  rw [ep, bigSep_W1, bigSep_W1]
  generalize (dat1 m c).Φ t.castSucc = I
  iintro ⟨HI, HO, ⟨%d0, H0⟩, ⟨%d1, H1⟩, ⟨%d2, H2⟩, ⟨%d3, H3⟩⟩
  rw [before1_0, before1_1, before1_2]
  ihave HO := (owesAt_elim (dat1 m c) t.castSucc _ e0) $$ HO
  ihave Hw := (scale_step c (grid1.coords t) (win1_0.stage (cfg1.slots t 0)) (hstage1_0 ((cfg1.slots t 0).cast nbuf1_0))
    (win1_1.stage (cfg1.slots t 1)) (hstage1_1 ((cfg1.slots t 1).cast nbuf1_1)) (win1_2.stage (cfg1.slots t 2)) (hstage1_2 ((cfg1.slots t 2).cast nbuf1_2))
    (win1_3.stage (cfg1.slots t 3)) (hstage1_3 ((cfg1.slots t 3).cast nbuf1_3)) (xBlk m c t) (gBlk m c t) (sBlk m c t)
    iprop(I ∗ ∃ W, owes (c : Thread nD τ) 0 W)) $$ [H0 H1 H2 H3 HI HO]
  · isplitl [H0]; · iexact H0
    isplitl [H1]; · iexact H1
    isplitl [H2]; · iexact H2
    isplitl [H3]; · iexists _; iexact H3
    isplitl [HI] <;> iassumption
  iapply wp_wand $$ Hw
  iintro %_ ⟨H0, H1, H2, H3, HI, HO⟩
  ihave HO := (owesAt_intro (dat1 m c) t.succ _ e1 rfl) $$ HO
  isplitl [HI]; · iexact HI
  isplitl [HO]; · iexact HO
  isplitl [H0]; · iexact H0
  isplitl [H1]; · iexact H1
  isplitl [H2]; · iexact H2
  iexact H3

end Cert.Rms

end
-- ==== Proof.Records.lean ====
module

public import proofs.«01_k».proof.Proof.Body1

/-!
# The two kernels as parts of the program

Each kernel's entry and exit: the first opens the two copy counters and ends with the talk over; the second is quiet. Between them a device holds all
its buffers, the barrier counter at zero, and owes nothing.
-/

@[expose] public section

noncomputable section

namespace Cert.Rms

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ)

/-- The two pipelines' data. -/
def pdats : (p : Fin 2) → (c : Dev nD) → Dat τ (Elt F) Unit ℕ UU ℕ (Pipeline.pin (pcfgs (F := F)) adm p) c
  | ⟨0, _⟩ => dat0 m
  | ⟨1, _⟩ => dat1 m

/-- A device's buffers at the end. -/
def W3 (c : Dev nD) : Valuation τ sig (Elt F) := Pipeline.afterRegion (dat1 m c) (W2 m c)

theorem kit0 : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem kit1 : Pipeline.PLaunchFacts (nD := nD) (τ := τ) (pcfgs (F := F)) 1 where
  cellOf_inj a := by rw [Subsingleton.elim a adm]; exact cellOf_inj
  win := winFacts1
  pre := Pipeline.PreFacts.none _
  block_pos := block_pos1
  arr_whole := arr_whole1
  stage_whole := stage_whole1

/-- The first kernel's own counters, one by one. -/
theorem own_eq (c : Dev nD) : (Pipeline.ownSems0 osem c : sProp 𝕄) = iprop(semVal (sendCell c) 0 ∗ semVal (recvCell c) 0) :=
  BI.bigSep_fin_two (fun k : Fin 2 => (semVal ((c : Thread nD τ), osem k) 0 : sProp 𝕄))

/-- What the launch deals a device for the talk. -/
def dealt (c : Dev nD) : sProp 𝕄 :=
  iprop((∃ K, ghost m K c) ∗ cred (tallyAt (barCell c) () 1) ∗ cred (tallyAt (recvCell c) () N))

/-- At the kernel's entry its two counters join the schedule. -/
theorem enter (c : Dev nD) :
    iprop(dealt m c ∗ Pipeline.ownSems0 osem c ∗ levAts L lv) ⊢ (|={Set.univ}=> entering m c : sProp 𝕄) := by
  rw [own_eq]
  unfold dealt entering ghost invs
  iintro ⟨⟨⟨%K, ⟨#Ib, #Is, #Ir, #Ibm, #Irm⟩, Pb, Os, Or, #Rb, Tb, Tr, Ts⟩, Cb, Cr⟩, ⟨Zs, Zr⟩, #Hlev⟩
  imod (Rounds.cell_open ER (sched m) (g := sendCell c) (Set.mem_univ (K (sendCell c)))) $$ [Os Zs] with ⟨Ps, #Rs⟩
  · isplitr; · iexact Is
    isplitl [Os] <;> iassumption
  imod (Rounds.cell_open ER (sched m) (g := recvCell c) (Set.mem_univ (K (recvCell c)))) $$ [Or Zr] with ⟨Pr, #Rr⟩
  · isplitr; · iexact Ir
    isplitl [Or] <;> iassumption
  imodintro
  isplitr [Cb Cr]
  · iexists K
    unfold opened invs
    isplitr
    · isplitr; · iexact Ib
      isplitr; · iexact Is
      isplitr; · iexact Ir
      isplitr; · iexact Ibm
      iexact Irm
    isplitl [Pb]; · iexact Pb
    isplitl [Ps]; · iexact Ps
    isplitl [Pr]; · iexact Pr
    isplitr; · iexact Rb
    isplitr; · iexact Rs
    isplitr; · iexact Rr
    isplitl [Tb]; · iexact Tb
    isplitl [Tr] <;> iassumption
  isplitl [Cb]; · iexact Cb
  isplitl [Cr]; · iexact Cr
  iexact Hlev

/-- What the first pipeline starts from. -/
theorem start0 (c : Dev nD) :
    iprop(Pipeline.scopedRest spec0 c ∗ (∃ r, prngReg c r) ∗ StableHlo.held (c.tc : Thread nD τ) ∅ (W0 m c) ∗ entering m c) ⊢ inv0 m c 0 := by
  rw [scoped0]
  unfold inv0
  rw [if_pos rfl]
  iintro ⟨⟨HA, HB, Hot⟩, Hreg, -, HE⟩
  isplitl [HE HA HB]
  · isplitl [HE]; · iexact HE
    isplitl [HA] <;> iassumption
  isplitl [Hot] <;> iassumption

/-- What it ends with: the buffers, its counters at zero, and the barrier at zero. -/
theorem end0 (c : Dev nD) :
    inv0 m c 8 ⊢ iprop(Pipeline.scopedRest spec0 c ∗ (∃ r, prngReg c r) ∗ StableHlo.held (c.tc : Thread nD τ) ∅ (W1 m c)
      ∗ Pipeline.ownSems0 osem c ∗ semVal (barCell c) 0) := by
  rw [scoped0, own_eq]
  unfold inv0 StableHlo.held
  rw [if_neg (by decide), if_pos rfl, BI.bigSep_empty]
  iintro ⟨⟨⟨Hb, Hs, Hr⟩, HA, HB⟩, Hot, Hreg⟩
  isplitl [HA HB Hot]
  · isplitl [HA]; · iexact HA
    isplitl [HB] <;> iassumption
  isplitl [Hreg]; · iexact Hreg
  isplitr; · iempintro
  isplitl [Hs Hr]
  · isplitl [Hs] <;> iassumption
  iexact Hb

/-- No staging counter is the barrier or `recvS`: all are at level zero. -/
theorem stage_level0 : ∀ (w : Fin 2) (s : Fin (win0 w).nbuf), (SemLoc.dma ((win0 w).sem s) : SemLoc sig) ≠ .dma recvS := by decide

theorem stage_level1 : ∀ (w : Fin 4) (s : Fin (win1 w).nbuf), (SemLoc.dma ((win1 w).sem s) : SemLoc sig) ≠ .dma recvS := by decide

theorem lv_stage (c : Dev nD) {s : DmaSem sig} (h : (SemLoc.dma s : SemLoc sig) ≠ .dma recvS) : lv ((c : Thread nD τ), .dma s) () ≤ 0 := by
  unfold lv
  rw [if_neg (fun e => by cases e), if_neg h]

/-- Whatever the first kernel owes, at any point, sits above its staging counters. -/
theorem due_above (c : Dev nD) (n : ℕ) (g : GSem nD τ sig) (u : Unit) (h : 0 < due0 c n g u) : u ∈ L g ∧ 0 < lv g u := by
  have hr : g = recvCell (mate c) → u ∈ L g ∧ 0 < lv g u := by
    rintro rfl; exact ⟨mem_L _ _ _, by rw [lv_recv]; decide⟩
  have hb : g = barCell (mate c) → u ∈ L g ∧ 0 < lv g u := by
    rintro rfl; exact ⟨mem_L _ _ _, by rw [lv_bar]; decide⟩
  unfold due0 at h
  split at h
  · exact (owed₀_pos h).elim hr hb
  split at h
  · exact absurd h (Nat.lt_irrefl 0)
  · exact hr (eq_of_tallyAt_pos h)

theorem arr0_zero (c : Dev nD) (w : Fin cfg0.W) :
    (dat0 m c).arrAt w 0 = W0 m c (Proc.devRef .tc (Pipeline.arrRef spec0 w)) := rfl

set_option backward.isDefEq.respectTransparency.types false in
/-- The first kernel's record. The buffers that are none of its arrays ride along at their contents. -/
def region0 : Pipeline.RegionSeg (pcfgs (F := F)) adm (pdats m) () defs₀ 𝒱₀ L lv 0 :=
  Pipeline.RegionSeg.ofTalk (pcfgs (F := F)) adm (pdats m) () defs₀ 𝒱₀ L lv 0 osem (by decide : Pipeline.OwnSemFacts spec0 osem)
    ∅ (Pipeline.ucRefs τ sig \ Pipeline.arrRefs spec0) (Finset.empty_subset _) kit0 rfl (fun c => (body0 m c).loose)
    (fun _ => 0) owed₀ (fun c => (zero_add (owed₀ c)).symm) (fun _ => rfl) (fun _ => rfl)
    (fun c w => by unfold Dat.share; split <;> rfl)
    (W0 m) (W1 m) (fun c b hb => Pipeline.afterRegion_off (dat0 m c) (W0 m c) (Pipeline.ucRefs τ sig) b (Finset.mem_sdiff.mp hb).1)
    (dealt m) (fun c => semVal (barCell c) 0) (entering m) (fun c => semVal (barCell c) 0) (enter m) (start0 m) (end0 m)
    (fun c => by iintro H; imodintro; iexact H)
    (fun _ => 0)
    ⟨fun c w s => mem_L c _ _, fun c w s => lv_stage c (stage_level0 w s), fun c t g i h => due_above c t.val g i h⟩
    (fun _ => iprop(emp))
    (fun _ _ => rfl)
    (fun c w => (Pipeline.afterRegion_arr (dat0 m c) (W0 m c) winFacts0.arr_inj w).symm)

set_option backward.isDefEq.respectTransparency.types false in
/-- The second kernel's record: nothing is owed, and the barrier counter rides along. -/
def region1 : Pipeline.RegionSeg (pcfgs (F := F)) adm (pdats m) () defs₀ 𝒱₀ L lv 1 :=
  Pipeline.RegionSeg.ofHeldIn (pcfgs (F := F)) adm (pdats m) () defs₀ 𝒱₀ L lv 1 (fun _ => 0) (Pipeline.ucRefs τ sig)
    (fun c => iprop(∃ r, prngReg c r)) (fun c => iprop(∃ r, prngReg c r)) kit1 rfl (fun c => (body1 m c).loose)
    (fun _ _ => rfl) (fun _ => rfl) (fun c w => by unfold Dat.share; split <;> rfl)
    (fun c => sep_comm.1) (fun c => sep_comm.1)
    (fun _ => 0) ⟨fun c w s => mem_L c _ _, fun c w s => lv_stage c (stage_level1 w s), fun _ _ _ h => absurd h (Nat.lt_irrefl 0)⟩
    (fun c => semVal (barCell c) 0) (W2 m) (fun _ _ => rfl)

/-- The first kernel's arrays are among a device's buffers. -/
theorem arrs0_sub : Pipeline.arrRefs (τ := τ) spec0 ⊆ Pipeline.ucRefs τ sig := by decide
theorem arrs1_sub : Pipeline.arrRefs (τ := τ) spec1 ⊆ Pipeline.ucRefs τ sig := by decide

/-- A device between the parts: `O` owed, the register, and `T` of the talk. -/
def between (T : sProp 𝕄) (O : CellTallies nD τ sig Unit) (c : Dev nD) : sProp 𝕄 :=
  iprop((∃ W, owes (c : Thread nD τ) O W) ∗ (∃ r, prngReg c r) ∗ T)

/-- The first kernel is entered from all buffers at the start. -/
theorem region0_pre (c : Dev nD) :
    iprop(StableHlo.held (c : Thread nD τ) (Pipeline.ucRefs τ sig) (W0 m c) ∗ between (dealt m c) (owed₀ c) c) ⊢ (region0 m).pre c := by
  show _ ⊢ iprop(StableHlo.held (c.tc : Thread nD τ) (Pipeline.arrRefs spec0) (W0 m c) ∗ (∃ r, prngReg c r)
    ∗ (StableHlo.held (c.tc : Thread nD τ) (Pipeline.ucRefs τ sig \ Pipeline.arrRefs spec0) (W0 m c) ∗ emp) ∗ dealt m c
    ∗ ∃ Wd, owes (c : Thread nD τ) (0 + owed₀ c) Wd)
  rw [StableHlo.held_sub_split (c.tc : Thread nD τ) arrs0_sub (W0 m c), zero_add]
  unfold between
  iintro ⟨⟨Ha, Hu⟩, HO, Hreg, HT⟩
  isplitl [Ha]; · iexact Ha
  isplitl [Hreg]; · iexact Hreg
  isplitl [Hu]
  · isplitl [Hu]; · iexact Hu
    iempintro
  isplitl [HT] <;> iassumption

/-- It is left with all buffers, the result's array at what was written. -/
theorem region0_post (c : Dev nD) :
    (region0 m).post c ⊢ iprop(StableHlo.held (c : Thread nD τ) (Pipeline.ucRefs τ sig) (W1 m c) ∗ between (semVal (barCell c) 0) 0 c) := by
  show iprop(StableHlo.held (c.tc : Thread nD τ) (Pipeline.arrRefs spec0) (W1 m c) ∗ (∃ r, prngReg c r)
    ∗ (StableHlo.held (c.tc : Thread nD τ) (Pipeline.ucRefs τ sig \ Pipeline.arrRefs spec0) (W1 m c) ∗ emp) ∗ semVal (barCell c) 0
    ∗ ∃ Wd, owes (c : Thread nD τ) (0 : CellTallies nD τ sig Unit) Wd) ⊢ _
  rw [StableHlo.held_sub_split (c.tc : Thread nD τ) arrs0_sub (W1 m c)]
  unfold between
  iintro ⟨Ha, Hreg, ⟨Hu, -⟩, HT, HO⟩
  isplitl [Ha Hu]
  · isplitl [Ha] <;> iassumption
  isplitl [HO]; · iexact HO
  isplitl [Hreg] <;> iassumption

/-- The second kernel is entered from all buffers, `gamma` made a row. -/
theorem region1_pre (c : Dev nD) :
    iprop(StableHlo.held (c : Thread nD τ) (Pipeline.ucRefs τ sig) (W2 m c) ∗ between (semVal (barCell c) 0) 0 c) ⊢ (region1 m).pre c := by
  show _ ⊢ iprop(StableHlo.held (c.tc : Thread nD τ) (Pipeline.arrRefs spec1) (W2 m c) ∗ (∃ r, prngReg c r)
    ∗ (StableHlo.held (c.tc : Thread nD τ) (Pipeline.ucRefs τ sig \ Pipeline.arrRefs spec1) (W2 m c) ∗ semVal (barCell c) 0)
    ∗ ∃ Wd, owes (c : Thread nD τ) (0 : CellTallies nD τ sig Unit) Wd)
  rw [StableHlo.held_sub_split (c.tc : Thread nD τ) arrs1_sub (W2 m c)]
  unfold between
  iintro ⟨⟨Ha, Hu⟩, HO, Hreg, HT⟩
  isplitl [Ha]; · iexact Ha
  isplitl [Hreg]; · iexact Hreg
  isplitl [Hu HT]
  · isplitl [Hu] <;> iassumption
  iexact HO

/-- It is left with all buffers, the result written. -/
theorem region1_post (c : Dev nD) :
    (region1 m).post c ⊢ iprop(StableHlo.held (c : Thread nD τ) (Pipeline.ucRefs τ sig) (W3 m c) ∗ between (semVal (barCell c) 0) 0 c) := by
  show iprop(StableHlo.held (c.tc : Thread nD τ) (Pipeline.arrRefs spec1) (W3 m c) ∗ (∃ r, prngReg c r)
    ∗ (StableHlo.held (c.tc : Thread nD τ) (Pipeline.ucRefs τ sig \ Pipeline.arrRefs spec1) (W2 m c) ∗ semVal (barCell c) 0)
    ∗ ∃ Wd, owes (c : Thread nD τ) (0 : CellTallies nD τ sig Unit) Wd) ⊢ _
  have e : ∀ b ∈ Pipeline.ucRefs τ sig \ Pipeline.arrRefs spec1, W3 m c b = W2 m c b :=
    Pipeline.afterRegion_off (dat1 m c) (W2 m c) (Pipeline.ucRefs τ sig)
  rw [StableHlo.held_sub_split (c.tc : Thread nD τ) arrs1_sub (W3 m c), StableHlo.held_congr (c.tc : Thread nD τ) e]
  unfold between
  iintro ⟨Ha, Hreg, ⟨Hu, HT⟩, HO⟩
  isplitl [Ha Hu]
  · isplitl [Ha] <;> iassumption
  isplitl [HO]; · iexact HO
  isplitl [Hreg] <;> iassumption

end Cert.Rms

end
-- ==== Proof.Start.lean ====
module

public import proofs.«01_k».proof.Proof.Records

/-!
# The launch

Every counter of the talk gets its invariant, the barriers from their counters and the two copy counters without; each payment's token goes to the
device that will pay; each device is dealt the credit its mate owes it.
-/

@[expose] public section

noncomputable section

namespace Cert.Rms

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The counters and the tokens -/

theorem osem_injective : Function.Injective osem := by decide
theorem osem_ne_bar : ∀ k : Fin 2, osem k ≠ .reg barS := by decide

/-- The barriers, one per device. -/
def barOf : Dev nD ↪ GSem nD τ sig := ⟨fun c => barCell c, fun _ _ h => congrArg (fun g : GSem nD τ sig => g.1.1) h⟩
/-- The copy counters, two per device. -/
def copyOf : Dev nD × Fin 2 ↪ GSem nD τ sig :=
  ⟨fun x => ((x.1 : Thread nD τ), osem x.2), fun _ _ h =>
    Prod.ext (congrArg (fun g : GSem nD τ sig => g.1.1) h) (osem_injective (congrArg Prod.snd h))⟩

abbrev bars : Finset (GSem nD τ sig) := Finset.univ.map barOf
abbrev copies : Finset (GSem nD τ sig) := Finset.univ.map copyOf

/-- A device's three counters. -/
abbrev three : Fin 3 → SemLoc sig := fun | 0 => .reg barS | 1 => .dma recvS | 2 => .dma sendS
theorem three_injective : Function.Injective three := by decide

/-- One payment at each counter, in its only round. -/
def payments : Finset (GSem nD τ sig × ℕ × Unit) :=
  Finset.univ.map ⟨fun x : Dev nD × Fin 3 => (((x.1 : Thread nD τ), three x.2), 0, ()), fun _ _ h =>
    Prod.ext (congrArg (fun t : GSem nD τ sig × ℕ × Unit => t.1.1.1) h)
      (three_injective (congrArg (fun t : GSem nD τ sig × ℕ × Unit => t.1.2) h))⟩

theorem bars_copies : Disjoint (bars : Finset (GSem nD τ sig)) copies :=
  Finset.disjoint_left.mpr fun _ h₁ h₂ => by
    obtain ⟨c, -, rfl⟩ := Finset.mem_map.mp h₁
    obtain ⟨x, -, h⟩ := Finset.mem_map.mp h₂
    exact osem_ne_bar x.2 (congrArg Prod.snd h)

theorem bar_in (c : Dev nD) : barCell c ∈ (bars ∪ copies : Finset (GSem nD τ sig)) :=
  Finset.mem_union_left _ (Finset.mem_map_of_mem barOf (Finset.mem_univ c))
theorem send_in (c : Dev nD) : sendCell c ∈ (bars ∪ copies : Finset (GSem nD τ sig)) :=
  Finset.mem_union_right _ (Finset.mem_map_of_mem copyOf (Finset.mem_univ (c, (0 : Fin 2))))
theorem recv_in (c : Dev nD) : recvCell c ∈ (bars ∪ copies : Finset (GSem nD τ sig)) :=
  Finset.mem_union_right _ (Finset.mem_map_of_mem copyOf (Finset.mem_univ (c, (1 : Fin 2))))

/-- The ghost state at the launch: the pipelines' and the talk's. -/
def u₀ : UU :=
  (initOf (Pipeline.cells (Pipeline.pin (pcfgs (F := F)) adm) cellOf_inj) (Pipeline.launchToks (Pipeline.pin (pcfgs (F := F)) adm) cellOf_inj),
    launchOf bars copies payments)

/-- The talk's part, all of it kept at device 0 until it is dealt. -/
def pot (c : Dev nD) : sProp 𝕄 := if c = 0 then BI.own (ER (launchOf bars copies payments)) else iprop(emp)

/-- Over all devices the pot is the talk's part once. -/
theorem pot_all : bigSep Finset.univ (pot (F := F)) = BI.own (ER (launchOf bars copies payments)) := by
  have h : ∀ c ∈ Finset.univ.erase (0 : Dev nD), pot (F := F) c = (BI.emp : sProp 𝕄) := fun c hc => by
    unfold pot; rw [if_neg (Finset.ne_of_mem_erase hc)]; rfl
  rw [bigSep_univ_at _ (0 : Dev nD), bigSep_congr h, BI.bigSep_emp_const]
  unfold pot
  rw [if_pos rfl]
  exact BI.equiv_iff.mp sep_emp

/-! ## What each device is dealt of the ghost state -/

/-- What all devices may look up: every counter's invariant, and that every barrier is in its round. -/
def known (κ : GSem nD τ sig → ℕ) : sProp 𝕄 :=
  iprop((bigSep (bars ∪ copies) fun g => cellInv ER (sched m) (κ g) g) ∗ bigSep bars fun g => reached ER g 0)

instance known_persistent (κ : GSem nD τ sig → ℕ) : BI.Persistent (known m κ) := by unfold known; infer_instance

theorem known_inv (κ : GSem nD τ sig → ℕ) {g : GSem nD τ sig} (hg : g ∈ (bars ∪ copies : Finset (GSem nD τ sig))) :
    known m κ ⊢ cellInv ER (sched m) (κ g) g := by
  unfold known
  iintro ⟨H, -⟩
  iapply (show (bigSep (bars ∪ copies) fun g => (cellInv ER (sched m) (κ g) g : sProp 𝕄)) ⊢ cellInv ER (sched m) (κ g) g from bigSep_elim hg)
  iexact H

theorem known_reached (κ : GSem nD τ sig → ℕ) (c : Dev nD) : known m κ ⊢ reached ER (barCell c) 0 := by
  unfold known
  iintro ⟨-, H⟩
  iapply (show (bigSep bars fun g => (reached ER g 0 : sProp 𝕄)) ⊢ reached ER (barCell c) 0 from
    bigSep_elim (Finset.mem_map_of_mem barOf (Finset.mem_univ c)))
  iexact H

/-- What is one device's alone: its place at its barrier, the rights to open its copy counters, and the tokens of the three payments it makes. -/
def own (c : Dev nD) : sProp 𝕄 :=
  iprop(atPos ER (barCell c) 0 ∅ 0 ∗ (openTok ER (sendCell c) ∗ openTok ER (recvCell c))
    ∗ (dutyTok ER (barCell (mate c)) 0 () ∗ dutyTok ER (recvCell (mate c)) 0 () ∗ dutyTok ER (sendCell c) 0 ()))

theorem ghost_of_own (κ : GSem nD τ sig → ℕ) (c : Dev nD) : iprop(known m κ ∗ own c) ⊢ iprop(∃ K, ghost m K c) := by
  unfold own ghost invs
  iintro ⟨#HK, Hat, ⟨HoS, HoR⟩, Htok⟩
  iexists κ
  isplitr
  · isplitr; · iapply (known_inv m κ (bar_in c)); iexact HK
    isplitr; · iapply (known_inv m κ (send_in c)); iexact HK
    isplitr; · iapply (known_inv m κ (recv_in c)); iexact HK
    isplitr; · iapply (known_inv m κ (bar_in (mate c))); iexact HK
    iapply (known_inv m κ (recv_in (mate c))); iexact HK
  isplitl [Hat]; · iexact Hat
  isplitl [HoS]; · iexact HoS
  isplitl [HoR]; · iexact HoR
  isplitr; · iapply (known_reached m κ (mate c)); iexact HK
  iexact Htok

/-- The tokens, device by device. -/
theorem payments_eq : bigSep payments (fun x => (dutyTok ER x.1 x.2.1 x.2.2 : sProp 𝕄))
    = bigSep Finset.univ fun c : Dev nD => iprop(dutyTok ER (barCell c) 0 () ∗ dutyTok ER (recvCell c) 0 () ∗ dutyTok ER (sendCell c) 0 ()) := by
  unfold payments
  rw [bigSep_map, bigSep_univ_prod]
  exact bigSep_congr fun c _ => bigSep_univ_eq_bigSepL [(0 : Fin 3), (1 : Fin 3), (2 : Fin 3)] (by decide) (by decide) _

/-- The barrier's and `recvS`'s tokens go to the mate. -/
theorem swap_tokens :
    (bigSep Finset.univ fun c : Dev nD => iprop(dutyTok ER (barCell c) 0 () ∗ dutyTok ER (recvCell c) 0 () ∗ dutyTok ER (sendCell c) 0 ()) : sProp 𝕄)
      = bigSep Finset.univ fun c : Dev nD =>
        iprop(dutyTok ER (barCell (mate c)) 0 () ∗ dutyTok ER (recvCell (mate c)) 0 () ∗ dutyTok ER (sendCell c) 0 ()) := by
  rw [bigSep_sep', bigSep_sep', bigSep_sep', bigSep_sep', bigSep_univ_equiv mateEquiv (fun c : Dev nD => (dutyTok ER (barCell c) 0 () : sProp 𝕄)),
    bigSep_univ_equiv mateEquiv (fun c : Dev nD => (dutyTok ER (recvCell c) 0 () : sProp 𝕄))]
  rfl

/-! ## The credit -/

/-- Only the mate owes at a device's counter. -/
theorem mate_of_cell {d c : Dev nD} {s : SemLoc sig} (h : ((c : Thread nD τ), s) = (((mate d : Dev nD) : Thread nD τ), s)) : d = mate c := by
  have e : c = mate d := congrArg (fun g : GSem nD τ sig => g.1.1) h
  rw [e, mate_mate]

theorem owed_at_bar (d c : Dev nD) : owed₀ d (barCell c) () = if d = mate c then 1 else 0 := by
  unfold owed₀
  rw [Pi.add_apply, Finsupp.add_apply, tallyAt_ne_cell (fun h => recv_ne_bar (congrArg Prod.snd h).symm), tallyAt_apply, Finsupp.zero_apply,
    Nat.zero_add]
  by_cases h : d = mate c
  · rw [if_pos h, if_pos ⟨by rw [h, mate_mate], rfl⟩]
  · rw [if_neg h, if_neg fun e => h (mate_of_cell e.1)]

theorem owed_at_recv (d c : Dev nD) : owed₀ d (recvCell c) () = if d = mate c then N else 0 := by
  unfold owed₀
  rw [Pi.add_apply, Finsupp.add_apply, tallyAt_apply, tallyAt_ne_cell (fun h => recv_ne_bar (congrArg Prod.snd h)), Finsupp.zero_apply,
    Nat.add_zero]
  by_cases h : d = mate c
  · rw [if_pos h, if_pos ⟨by rw [h, mate_mate], rfl⟩]
  · rw [if_neg h, if_neg fun e => h (mate_of_cell e.1)]

/-- A counter at which only the mate owes, and it `n`, is dealt credit `n`. -/
theorem credit_of (c : Dev nD) (s : SemLoc sig) (n : ℕ) (h : ∀ d, owed₀ d ((c : Thread nD τ), s) () = if d = mate c then n else 0) :
    tallyOn ((c : Thread nD τ), s) (launchCredit (Pipeline.owing owed₀) 0 ((c : Thread nD τ), s))
      = (tallyAt ((c : Thread nD τ), s) () n : CellTallies nD τ sig Unit) := by
  unfold tallyAt
  refine congrArg _ (Finsupp.ext fun u => ?_)
  cases u
  rw [Pipeline.launchCredit_owing, Finsupp.single_eq_same, Finset.sum_congr rfl fun d _ => h d,
    Finset.sum_ite_eq' Finset.univ (mate c) fun _ => n, if_pos (Finset.mem_univ _)]

theorem credits (c : Dev nD) :
    (Pipeline.launchCred owed₀ c : sProp 𝕄) ⊢ iprop(cred (tallyAt (barCell c) () 1) ∗ cred (tallyAt (recvCell c) () N)) := by
  unfold Pipeline.launchCred
  rw [bigSep_univ_at _ (SemLoc.reg barS), credit_of c _ 1 fun d => owed_at_bar d c]
  refine sep_mono_right ?_
  rw [← credit_of c _ N fun d => owed_at_recv d c]
  exact bigSep_elim (Finset.mem_erase.mpr ⟨recv_ne_bar, Finset.mem_univ _⟩)

/-! ## Dealing -/

/-- The only counter that lives for the whole program is the barrier. -/
theorem unscoped_bar (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

theorem eq_bar_of_unscoped : ∀ sm : SemLoc sig, sm.isScoped .tc = false → sm = .reg barS := by decide

/-- A device's state at the program's start. -/
abbrev first (c : Dev nD) : sProp 𝕄 :=
  iprop(StableHlo.held (c : Thread nD τ) (Pipeline.ucRefs τ sig) (W0 m c) ∗ between (dealt m c) (owed₀ c) c)

/-- What of a device's launch holdings is not ghost state. -/
def goods (c : Dev nD) : sProp 𝕄 :=
  iprop(StableHlo.held (c : Thread nD τ) (Pipeline.ucRefs τ sig) (W0 m c)
    ∗ (cred (tallyAt (barCell c) () 1) ∗ cred (tallyAt (recvCell c) () N)) ∗ owes (c : Thread nD τ) (owed₀ c) ∅ ∗ prngReg c (ρ c))

theorem first_of (κ : GSem nD τ sig → ℕ) (c : Dev nD) : iprop(known m κ ∗ (own c ∗ goods m ρ c)) ⊢ first m c := by
  unfold goods first between dealt
  iintro ⟨#HK, Ho, Hh, Hc, HO, Hp⟩
  isplitl [Hh]; · iexact Hh
  isplitl [HO]; · iexists ∅; iexact HO
  isplitl [Hp]; · iexists ρ c; iexact Hp
  isplitl [Ho]
  · iapply (ghost_of_own m κ c)
    isplitr; · iexact HK
    iexact Ho
  iexact Hc

/-- From the machine's holdings at the launch every device reaches its first state. -/
theorem deal :
    iprop((bigSep Finset.univ fun c : Dev nD => iprop(unscopedBufs c (fun b => m ((c : Thread nD τ).loc b)) ∗ unscopedSems0 c
          ∗ owes (c : Thread nD τ) (owed₀ c) ∅ ∗ Pipeline.launchCred owed₀ c ∗ prngReg c (ρ c) ∗ pot c)) ∗ levAts L lv)
      ⊢ (|={Set.univ}=> bigSep Finset.univ (first m) : sProp 𝕄) := by
  have hone (c : Dev nD) : iprop(unscopedBufs c (fun b => m ((c : Thread nD τ).loc b)) ∗ unscopedSems0 c
        ∗ owes (c : Thread nD τ) (owed₀ c) ∅ ∗ Pipeline.launchCred owed₀ c ∗ prngReg c (ρ c) ∗ pot c)
      ⊢ (iprop(goods m ρ c ∗ semVal (barCell c) 0 ∗ pot c) : sProp 𝕄) := by
    rw [show (unscopedBufs c (fun b => m ((c : Thread nD τ).loc b)) : sProp 𝕄)
      = StableHlo.held (c : Thread nD τ) (Pipeline.ucRefs τ sig) (W0 m c) from Pipeline.unscopedBufs_held c (W0 m c), unscoped_bar]
    unfold goods
    iintro ⟨Hh, Hs, HO, Hc, Hp, HG⟩
    ihave Hc := (credits (F := F) c) $$ Hc
    isplitl [Hh Hc HO Hp]
    · isplitl [Hh]; · iexact Hh
      isplitl [Hc]; · iexact Hc
      isplitl [HO] <;> iassumption
    isplitl [Hs] <;> iassumption
  have hbars (Φ : GSem nD τ sig → sProp 𝕄) : bigSep bars Φ = bigSep Finset.univ fun c : Dev nD => Φ (barCell c) :=
    bigSep_map (s := Finset.univ) barOf (Φ := Φ)
  have hopens : bigSep copies (fun g => (openTok ER g : sProp 𝕄))
      = bigSep Finset.univ (fun c : Dev nD => iprop(openTok ER (sendCell c) ∗ openTok ER (recvCell c))) := by
    rw [bigSep_map, bigSep_univ_prod]
    exact bigSep_congr fun c _ => BI.bigSep_fin_two (fun k : Fin 2 => (openTok ER ((c : Thread nD τ), osem k) : sProp 𝕄))
  have hall : (bigSep Finset.univ fun c : Dev nD => iprop(unscopedBufs c (fun b => m ((c : Thread nD τ).loc b)) ∗ unscopedSems0 c
        ∗ owes (c : Thread nD τ) (owed₀ c) ∅ ∗ Pipeline.launchCred owed₀ c ∗ prngReg c (ρ c) ∗ pot c))
      ⊢ (iprop(bigSep Finset.univ (goods m ρ) ∗ bigSep Finset.univ (fun c : Dev nD => semVal (barCell c) 0) ∗ bigSep Finset.univ pot) : sProp 𝕄) := by
    rw [← bigSep_sep', ← bigSep_sep']
    exact bigSep_mono fun c _ => hone c
  have hjoin : iprop((bigSep Finset.univ (fun c : Dev nD => atPos ER (barCell c) 0 ∅ 0)
        ∗ (bigSep Finset.univ fun c : Dev nD => iprop(openTok ER (sendCell c) ∗ openTok ER (recvCell c)))
        ∗ (bigSep Finset.univ fun c : Dev nD =>
          iprop(dutyTok ER (barCell (mate c)) 0 () ∗ dutyTok ER (recvCell (mate c)) 0 () ∗ dutyTok ER (sendCell c) 0 ())))
        ∗ bigSep Finset.univ (goods m ρ))
      ⊢ (bigSep Finset.univ fun c : Dev nD => iprop(own c ∗ goods m ρ c) : sProp 𝕄) := by
    unfold own
    rw [← bigSep_sep', ← bigSep_sep', ← bigSep_sep']
  iintro ⟨H, -⟩
  ihave H := hall $$ H
  icases H with ⟨Hgoods, Hv, HG⟩
  ihave Hu := (Entails.of_eq (pot_all (F := F))) $$ HG
  imod (Rounds.fund_launch ER (sched m) bars_copies (fun g _ h => h) payments) $$ [Hv Hu] with ⟨%κ, -, #Hinv, #Hr, Hat, Hopen, Htok⟩
  · isplitl [Hv]
    · iapply (Entails.of_eq (hbars fun g => semVal g 0).symm) $$ Hv
    · iexact Hu
  imodintro
  iapply (bigSep_with_persistent (R := known m κ) (Φ := fun c => iprop(own c ∗ goods m ρ c)) fun c _ => first_of m ρ κ c)
  isplitr
  · unfold known
    isplitr; · iexact Hinv
    iexact Hr
  iapply hjoin
  isplitr [Hgoods]
  · isplitl [Hat]; · iapply (Entails.of_eq (hbars fun g => atPos ER g 0 ∅ 0)) $$ Hat
    isplitl [Hopen]; · iapply (Entails.of_eq hopens) $$ Hopen
    iapply (Entails.of_eq ((payments_eq (F := F)).trans swap_tokens)) $$ Htok
  · iexact Hgoods

end Cert.Rms

end
-- ==== Proof.Run.lean ====
module

public import proofs.«01_k».proof.Proof.Start

/-!
# The run

The program is the first kernel, the reshape of `gamma`, and the second kernel. From any memory, with all counters at zero, it ends on all four
devices: the arguments are as they were, the result is what the second kernel's pipeline wrote, and all counters are at zero again.
-/

@[expose] public section

noncomputable section

namespace Cert.Rms

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Seg HostSeg)

variable {F : FTy → Type} [FloatOps F]

local notation "𝕄" => MT nD τ sig Unit (Elt F) ℕ UU ℕ

variable (m : (ℓ : Loc nD τ sig) → Buf (Elt F) ℓ) (ρ : Dev nD → PrngReg)

/-- The reshape between the kernels. -/
def middle : HostSeg (Ix := Unit) (Name := ℕ) (U := UU) (Lvl := ℕ) (pcfgs (F := F)) defs₀ 𝒱₀ L lv :=
  HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (W1 m) (fun c => between (semVal (barCell c) 0) 0 c)

/-- The program's parts, on every device the same. -/
abbrev parts : List (Seg (pcfgs (F := F)) adm (pdats m) () defs₀ 𝒱₀ L lv) :=
  [.region (region0 m), .host (middle m), .region (region1 m)]

/-- A device at the program's end. -/
abbrev final (c : Dev nD) : sProp 𝕄 :=
  iprop(StableHlo.held (c : Thread nD τ) (Pipeline.ucRefs τ sig) (W3 m c) ∗ semVal (barCell c) 0)

/-- No kernel writes `r`, which is not the reshape's result: it ends as it was. -/
theorem W3_keeps (c : Dev nD) (r : Ref sig .tc) (h0 : ∀ w, Pipeline.arrRef cfg0.spec w = r → (cfg0.win w).isOut = false)
    (h1 : ∀ w, Pipeline.arrRef cfg1.spec w = r → (cfg1.win w).isOut = false) (hr : r ∉ hostOps1_W) :
    W3 m c (Proc.devRef .tc r) = m ((c : Thread nD τ).loc r) :=
  (Pipeline.afterRegion_keeps (dat1 m c) (W2 m c) winFacts1.arr_inj (fun _ => rfl) r h1).trans
    ((StableHlo.after_of_writes_sub hostOps1 _ hostOps1_writes hr).trans
      (Pipeline.afterRegion_keeps (dat0 m c) (W0 m c) winFacts0.arr_inj (fun _ => rfl) r h0))

theorem W3_x (c : Dev nD) : W3 m c (Proc.devRef .tc main_arg0) = m ((c : Thread nD τ).loc main_arg0) :=
  W3_keeps m c main_arg0 (by decide) (by decide) (by decide)
theorem W3_gamma (c : Dev nD) : W3 m c (Proc.devRef .tc main_arg1) = m ((c : Thread nD τ).loc main_arg1) :=
  W3_keeps m c main_arg1 (by decide) (by decide) (by decide)

theorem x_held : (Proc.devRef .tc main_arg0 : DevRef τ sig) ∈ Pipeline.ucRefs τ sig :=
  Finset.mem_filter.mpr ⟨StableHlo.devRef_mem_tcRefs main_arg0, by decide⟩
theorem gamma_held : (Proc.devRef .tc main_arg1 : DevRef τ sig) ∈ Pipeline.ucRefs τ sig :=
  Finset.mem_filter.mpr ⟨StableHlo.devRef_mem_tcRefs main_arg1, by decide⟩
theorem out_held : (Proc.devRef .tc main_v3 : DevRef τ sig) ∈ Pipeline.ucRefs τ sig :=
  Finset.mem_filter.mpr ⟨StableHlo.devRef_mem_tcRefs main_v3, by decide⟩

set_option backward.isDefEq.respectTransparency.types false in
/-- The run: every execution ends, with the arguments unchanged, the result at what the second kernel wrote, and every counter at zero. -/
theorem run_main : θ_run defs (onTc (τ := τ) (main (F := F))) ⟨m, fun _ => 0, ρ⟩
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_v3) = W3 m c (Proc.devRef .tc main_v3)) ∧ r.2.sem = fun _ => 0) :=
  Pipeline.θ_run_regions_kit_sems (pcfgs (F := F)) adm (pdats m) () cellOf_inj EP defs₀ 𝒱₀ L lv m ρ main (parts m)
    (fun c Q => by
      rewrite [main_chain c, Seg.run_eq_chain, show (parts m).map Seg.prog = [
        Prog.lift (.customCall (Pipeline.entry 0) ()), StableHlo.seq hostOps1, Prog.lift (.customCall (Pipeline.entry 1) ())] from rfl]
      dsimp (config := { failIfUnchanged := false }) only
      exact .rfl)
    (by simp only [parts, Seg.pipes_host, Seg.pipes_region, Seg.pipes_nil]; decide)
    (O₀ := owed₀) (hL := L_of_ne) (G := pot) (u₀ := u₀)
    (hu₀ := by
      rw [pot_all]
      unfold u₀
      iintro Hu
      ihave H := (ownU_pair _ _) $$ Hu
      icases H with ⟨HP, HX⟩
      imodintro
      isplitl [HP]; · iexact HP
      iexact HX)
    (T₀ := first m) (Tₙ := final m)
    (hch := ⟨region0_pre m, region0_post m, region1_pre m, fun c => (region1_post m c).trans (by
      unfold between
      iintro ⟨Hh, HO, -, Hb⟩
      isplitr [HO]
      · isplitl [Hh] <;> iassumption
      iexact HO)⟩)
    (hinit := deal m ρ)
    (QY := fun c s => (∀ b ∈ Pipeline.ucRefs τ sig, s.mem ((c : Thread nD τ).1, b) = W3 m c b) ∧ s.sem (barCell c) = 0)
    (hfin := fun c s' => by
      unfold final StableHlo.held
      iintro ⟨⟨Hh, Hb⟩, HSI⟩
      icombine HSI Hb gives %hb
      ihave Hr := (pointsTo_read_all (Pipeline.ucRefs τ sig) (fun b => ((c : Thread nD τ).1, b)) (W3 m c) s') $$ [Hh HSI]
      · isplitl [Hh] <;> iassumption
      icases Hr with ⟨%h, HSI⟩
      imodintro
      isplitr
      · ipureintro
        exact ⟨h, by simpa using hb⟩
      iexact HSI)
    (hQ := fun s h hs => ⟨fun c =>
        ⟨((h c).1 _ x_held).trans (W3_x m c),
          ((h c).1 _ gamma_held).trans (W3_gamma m c),
          (h c).1 _ out_held⟩,
      sem_eq_zero hs fun c sm hsm => by
        obtain rfl := eq_bar_of_unscoped sm hsm
        exact (h c).2⟩)

end Cert.Rms

end
-- ==== Proof.Frames.lean ====
module

public import proofs.«01_k».proof.Proof.Run
public import proofs.«01_k».proof.Defs
public import proofs.«01_k».proof.Proof.Gen.Kernel
public import proofs.«01_k».proof.Proof.Gen.ReferenceIdeal.Run

/-!
# The three programs run and leave their arguments

The kernel as printed has the same text as the idealized one, so one run, proved for any float values, serves both.
-/

@[expose] public section

noncomputable section

namespace Cert.Rms

open Idealize.ShloMosaic Idealize.ShloMosaic.TcCoe Idealize.SL.Sem

attribute [local instance] Cert.Kernel.Gen.facts

/-- The idealized kernel runs, its arguments stay, all counters end at zero. -/
theorem frame_ideal : Cert.quiescent_KernelIdeal (hKernelIdeal := Cert.KernelIdeal.Gen.facts) := fun m ρ _ =>
  (θ_run Cert.KernelIdeal.defs _ _).mono (fun _ h => ⟨fun c => ⟨(h.1 c).1, (h.1 c).2.1⟩, h.2⟩) (run_main (F := Ideal) m ρ)

/-- The two programs' kernels, label by label. -/
theorem bodies_eq : Cert.Kernel.defs₀ (F := Bits) = Cert.KernelIdeal.defs₀ :=
  congrArg Defs.onTc (funext fun l => funext fun a => match l, a with
    | 0, (_, _) => rfl
    | 1, (_, _) => rfl)

/-- … and with the pipelines around them. -/
theorem tables_eq : Cert.Kernel.defs (F := Bits) = Cert.KernelIdeal.defs :=
  congrArg (Pipeline.defs _) bodies_eq

/-- So does the kernel as printed, at the machine's own floats. -/
theorem frame_kernel : Cert.quiescent_Kernel (hKernel := Cert.Kernel.Gen.facts) := by
  intro m ρ _
  rw [tables_eq]
  exact (θ_run Cert.KernelIdeal.defs (onTc (τ := Cert.KernelIdeal.τ) Cert.KernelIdeal.main) ⟨m, fun _ => 0, ρ⟩).mono
    (fun _ h => And.intro (fun c => And.intro (h.1 c).1 (h.1 c).2.1) h.2) (run_main (F := Bits) m ρ)

/-- So does the reference, which has no counter. -/
theorem frame_reference : Cert.quiescent_ReferenceIdeal (hReferenceIdeal := Cert.ReferenceIdeal.Gen.facts) := fun m ρ _ =>
  (θ_run Cert.ReferenceIdeal.defs _ _).mono
    (fun r h => ⟨fun c => (h c).2, sem_eq_zero_of_no_sems (by decide) r.2⟩) (Cert.ReferenceIdeal.Value.run (F := Ideal) m ρ)

end Cert.Rms

end
-- ==== Proof.Arrays.lean ====
module

public import proofs.«01_k».proof.Proof.Run

/-!
# What the arrays hold

The first kernel leaves the row of sums in its result; the second reads the arguments and that row and leaves `x` scaled, row by row.
-/

@[expose] public section

set_option maxRecDepth 16384

noncomputable section

namespace Cert.Rms

open Cert.KernelIdeal Cert.KernelIdeal.Gen
open Idealize.ShloMosaic Idealize.ShloMosaic.TcCoe Idealize.ShloMosaic.StableHlo
open Idealize.SL Idealize.SL.Sem
open Idealize.ShloMosaic.ValueIdx
open Idealize.ShloMosaic.Pipeline (Dat)

variable {F : FTy → Type} [FloatOps F]

variable (m : (ℓ : Loc nD τ sig) → Buf (Elt F) ℓ)

/-- The first kernel's result: the device's row sums and its mate's, added. -/
theorem W1_sums (c : Dev nD) : W1 m c (Proc.devRef .tc main_v1) = sumSq m c := by
  refine (Pipeline.afterRegion_arr (dat0 m c) (W0 m c) winFacts0.arr_inj 1).trans ?_
  refine (dat0 m c).arrAt_eq_of_after_last 1 t0_7 (by decide +kernel) _ fun j => ?_
  blk_simp
  rfl

/-- At the second kernel's start `x` is still the argument, -/
theorem W2_x (c : Dev nD) : W2 m c (Proc.devRef .tc main_arg0) = m ((c : Thread nD τ).loc main_arg0) :=
  (StableHlo.after_of_writes_sub hostOps1 _ hostOps1_writes (by decide)).trans
    (Pipeline.afterRegion_keeps (dat0 m c) (W0 m c) winFacts0.arr_inj (fun _ => rfl) main_arg0 (by decide))

/-- the sums are the first kernel's, -/
theorem W2_sums (c : Dev nD) : W2 m c (Proc.devRef .tc main_v1) = sumSq m c :=
  (StableHlo.after_of_writes_sub hostOps1 _ hostOps1_writes (by decide)).trans (W1_sums m c)

/-- and `gamma` is laid out as a row. -/
theorem W2_gamma (c : Dev nD) :
    W2 m c (Proc.devRef .tc main_v2) = shapeCast S1x2048 (m ((c : Thread nD τ).loc main_arg1)) shapeCasts_S2048_S1x2048 := by
  have e : W1 m c (Proc.devRef .tc main_arg1) = m ((c : Thread nD τ).loc main_arg1) :=
    Pipeline.afterRegion_keeps (dat0 m c) (W0 m c) winFacts0.arr_inj (fun _ => rfl) main_arg1 (by decide)
  rw [← e]
  unfold W2
  after_results
  rfl

end Cert.Rms

end
-- ==== Proof.Payloads.lean ====
module

public import proofs.«01_k».proof.Proof.Gen.KernelIdeal.Skeleton
public import proofs.«01_k».proof.Proof.Gen.KernelIdeal
public import Idealize.ShloMosaic.Lib.ValueIdx
public import Idealize.ShloMosaic.Lib.ValueLayout
public import Idealize.ShloMosaic.Lib.Pipeline.Value
public import Idealize.ShloMosaic.PureOps.Ideal.Laws

/-!
# What the kernels compute, entry by entry

Over the extended reals: the sums of squares of a block's rows, and a block scaled.
-/

@[expose] public section

set_option maxRecDepth 16384

noncomputable section

namespace Cert.Rms

open Cert.KernelIdeal Cert.KernelIdeal.Gen
open Idealize.ShloMosaic
open Idealize.ShloMosaic.ValueIdx

/-- Entry `r` of a block's sums is the sum of the squares of row `r`. -/
theorem squares_apply (X : S768x2048.Idx → Elt Ideal .f32) (r : Fin 768) :
    k0_pay1 X (ix2 0 r) = ∑ j : Fin 2048, (X (ix2 r j) : EReal) * X (ix2 r j) := by
  unfold k0_pay1
  simp only [shapeCast_self]
  rw [shapeCast_a_1a_apply]
  refine (Ideal.multiReduction_add_single _ _ _ _ _ _).trans (Finset.sum_congr rfl fun j _ => ?_)
  rw [mulf_apply]
  have e : (reduces_S768x2048_S768 : S768x2048.Reduces [1] S768).lift (ix1 r) j = ix2 r j := by
    funext a; fin_cases a <;> rfl
  rw [e]
  rfl

/-- Entry `(r, j)` of a scaled block. -/
theorem scaled_apply (S : S1x1536.Idx → Elt Ideal .f32) (X : S1536x2048.Idx → Elt Ideal .f32) (G : S1x2048.Idx → Elt Ideal .f32)
    (r : Fin 1536) (j : Fin 2048) :
    k1_pay1 S X G (ix2 r j) = (X (ix2 r j) * G (ix2 0 j) : EReal)
      * Ideal.rsqrt ((S (ix2 0 r) : EReal) * Ideal.ofBits .f32 0x39800000#32 + Ideal.ofBits .f32 0x3727C5AC#32) := by
  unfold k1_pay1
  simp only [shapeCast_self]
  rw [mulf_apply, mulf_apply, broadcastTo_1b_ab_apply]
  congr 1
  refine (broadcastTo_apply _ _ _ (ix2 r (0 : Fin 1)) fun a => by fin_cases a <;> rfl).trans ?_
  rw [transpose_ix2_apply]
  rfl

end Cert.Rms

end
-- ==== Proof.Result.lean ====
module

public import proofs.«01_k».proof.Proof.Arrays
public import proofs.«01_k».proof.Proof.Payloads

/-!
# The kernel's result, entry by entry

Over the extended reals, entry `(i, j)` of device `c`'s result is `x i j * gamma j / sqrt (mean + eps)`, the mean being over row `i` of `c`'s half and
of its mate's.
-/

@[expose] public section

set_option maxRecDepth 16384

noncomputable section

namespace Cert.Rms

open Cert.KernelIdeal Cert.KernelIdeal.Gen
open Idealize.ShloMosaic hiding ix1 ix2 eq_ix2 mulf_apply
open Idealize.ShloMosaic.TcCoe
open Idealize.SL Idealize.SL.Sem
open Idealize.ShloMosaic.ValueIdx
open Idealize.ShloMosaic.Pipeline (Dat)

variable (m : (ℓ : Loc nD τ sig) → Buf (Elt Ideal) ℓ)

/-- Device `c`'s block of `x` and of `gamma`. -/
abbrev xs (c : Dev nD) : S6144x2048.Idx → EReal := m ((c : Thread nD τ).loc main_arg0)
abbrev gs (c : Dev nD) : S2048.Idx → EReal := m ((c : Thread nD τ).loc main_arg1)

/-- The point at index `t` of either grid works on block `t`. -/
theorem at0 : ∀ t : Fin grid0.N, win0_0.index t = ![t.val, 0] := by decide +kernel
theorem at1_0 : ∀ t : Fin grid1.N, win1_0.index t = ![t.val, 0] := by decide +kernel
theorem at1_1 : ∀ t : Fin grid1.N, win1_1.index t = ![0, 0] := by decide +kernel
theorem at1_2 : ∀ t : Fin grid1.N, win1_2.index t = ![0, t.val] := by decide +kernel
theorem at1_3 : ∀ t : Fin grid1.N, win1_3.index t = ![t.val, 0] := by decide +kernel

/-- Entry `r` of a device's sums is the sum of the squares of row `r` of its block. -/
theorem rowSq_apply (c : Dev nD) (r : Fin 6144) :
    rowSq m c (ix2 0 r) = ∑ j : Fin 2048, xs m c (ix2 r j) * xs m c (ix2 r j) := by
  refine (squares_apply (tile m c (pointOf r)) ⟨r.val % 768, Nat.mod_lt _ (by decide)⟩).trans (Finset.sum_congr rfl fun j _ => ?_)
  have e : tile m c (pointOf r) (ix2 ⟨r.val % 768, Nat.mod_lt _ (by decide)⟩ j) = xs m c (ix2 r j) := by
    unfold tile pointOf
    blk_ext [at0]
    show r.val / 768 * 768 + r.val % 768 = r.val
    omega
  rw [e]

/-- Entry `(i, j)` of the second kernel's result on device `c`. -/
def outAt (c : Dev nD) : S6144x2048.Idx → EReal := fun i =>
  xs m c i * gs m c (ix1 (i 1)) * Ideal.rsqrt ((rowSq m c (ix2 0 (i 0)) + rowSq m (mate c) (ix2 0 (i 0)) : EReal)
    * Ideal.ofBits .f32 0x39800000#32 + Ideal.ofBits .f32 0x3727C5AC#32)

/-- Row `r` of block `t` of the second kernel is row `1536 t + r` of the array. -/
def rowAt (t : Fin grid1.N) (r : Fin 1536) : Fin 6144 :=
  ⟨t.val * 1536 + r.val, by have := lt_of_lt_of_eq t.isLt N_1; omega⟩

/-- The block of `x` that point `t` reads, -/
theorem xBlk_apply (c : Dev nD) (t : Fin grid1.N) (r : Fin 1536) (j : Fin 2048) :
    xBlk m c t (ix2 r j) = xs m c (ix2 (rowAt t r) j) := by
  unfold xBlk
  rw [W2_x]
  unfold rowAt
  blk_ext [at1_0]

/-- the row of `gamma`, -/
theorem gBlk_apply (c : Dev nD) (t : Fin grid1.N) (j : Fin 2048) : gBlk m c t (ix2 0 j) = gs m c (ix1 j) := by
  unfold gBlk
  rw [W2_gamma]
  have e : ((win1 1).blk t).view.read (Elt Ideal) (shapeCast S1x2048 (gs m c) shapeCasts_S2048_S1x2048) (ix2 0 j)
      = shapeCast S1x2048 (gs m c) shapeCasts_S2048_S1x2048 (ix2 0 j) := by
    blk_ext [at1_1]
  exact e.trans (shapeCast_a_1a_apply _ _ _ _)

/-- and the sums of its rows. -/
theorem sBlk_apply (c : Dev nD) (t : Fin grid1.N) (r : Fin 1536) :
    sBlk m c t (ix2 0 r) = (rowSq m c (ix2 0 (rowAt t r)) + rowSq m (mate c) (ix2 0 (rowAt t r)) : EReal) := by
  unfold sBlk
  rw [W2_sums]
  have e : ((win1 2).blk t).view.read (Elt Ideal) (sumSq m c) (ix2 0 r) = sumSq m c (ix2 0 (rowAt t r)) := by
    unfold rowAt
    blk_ext [at1_2]
  exact e.trans rfl

/-- What point `t` writes. -/
theorem oBlk_apply (c : Dev nD) (t : Fin grid1.N) (r : Fin 1536) (j : Fin 2048) :
    oBlk m c t (ix2 r j) = outAt m c (ix2 (rowAt t r) j) := by
  unfold oBlk
  rw [scaled_apply, xBlk_apply, gBlk_apply, sBlk_apply]
  rfl

/-- The second kernel's result array. -/
theorem W3_result (c : Dev nD) : W3 m c (Proc.devRef .tc main_v3) = outAt m c := by
  refine (Pipeline.afterRegion_arr (dat1 m c) (W2 m c) winFacts1.arr_inj 3).trans ?_
  refine (dat1 m c).arrAt_eq_of_covers 3 _ (by decide +kernel) fun t hf y => ?_
  rw [show ((cfg1.win 3).xinj (cfg1.grid.coords t) y : S1536x2048.Idx) = y from rfl]
  have e : (((cfg1.win 3).blk t).view.emb y : S6144x2048.Idx) = ix2 (rowAt t (y 0)) (y 1) := by
    unfold rowAt
    blk_ext [at1_3]
  rw [e]
  have hy : oBlk m c t y = oBlk m c t (ix2 (y 0) (y 1)) := congrArg (oBlk m c t) (eq_ix2 (y : S1536x2048.Idx))
  exact hy.trans (oBlk_apply m c t (y 0) (y 1))

end Cert.Rms

end
-- ==== Proof.RefValue.lean ====
module

public import proofs.«01_k».proof.Proof.Gen.ReferenceIdeal.Run
public import Idealize.ShloMosaic.Lib.ValueIdx
public import Idealize.ShloMosaic.Lib.ValueLayout
public import Idealize.ShloMosaic.Lib.Pipeline.Value
public import Idealize.ShloMosaic.PureOps.Ideal.Laws

/-!
# What the reference computes, entry by entry

Over the extended reals, entry `(i, j)` is `gamma j * x i j / sqrt (mean + eps)`, the mean being of the squares of row `i`.
-/

@[expose] public section

set_option maxRecDepth 16384

noncomputable section

namespace Cert.Rms

open Cert.ReferenceIdeal Cert.ReferenceIdeal.Gen
open Idealize.ShloMosaic Idealize.ShloMosaic.TcCoe Idealize.SL.Sem
open Idealize.ShloMosaic.ValueIdx

/-- The reference's array of results, as its operations compose it. -/
abbrev refArray (X : FVec Ideal S12288x4096 .f32) (G : FVec Ideal S4096 .f32) : FVec Ideal S12288x4096 .f32 :=
  Host.divf (mulf (broadcastInDim S12288x4096 ![0, 1] bcast_S1x4096_S12288x4096_0_1 (broadcastInDim S1x4096 ![1] bcast_S4096_S1x4096_1 G)) X)
    (broadcastInDim S12288x4096 ![0, 1] bcast_S12288x1_S12288x4096_0_1 (Host.sqrt (addf
      (Host.divf (broadcastInDim S12288x1 ![0] bcast_S12288_S12288x1_0
          (Host.reduceAdd (mulf X X) (constant S_ .f32 0x00000000#32) reducesTo_S12288x4096_S12288_d1 h_S_))
        (broadcastInDim S12288x1 ![] bcast_S_S12288x1 (constant S_ .f32 0x45800000#32)))
      (broadcastInDim S12288x1 ![] bcast_S_S12288x1 (constant S_ .f32 0x3727C5AC#32)))))

/-- Its run, the arguments being on its one device. -/
theorem run_reference (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v12) = refArray (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  Cert.ReferenceIdeal.Value.run m ρ

variable (X : FVec Ideal S12288x4096 .f32) (G : FVec Ideal S4096 .f32)

/-- The host's sum over row `i` of the squares. -/
theorem refSum_apply (i : Fin 12288) :
    Host.reduceAdd (mulf X X) (constant S_ .f32 0x00000000#32) reducesTo_S12288x4096_S12288_d1 h_S_ (ix1 i)
      = ∑ j : Fin 4096, (X (ix2 i j) : EReal) * X (ix2 i j) := by
  have hr : S12288x4096.Reduces [1] S12288 := by decide
  refine (Ideal.hostReduceAdd_single reducesTo_S12288x4096_S12288_d1 hr (mulf X X) _ (ix1 i)).trans ?_
  show Ideal.ofBits .f32 0x00000000#32 + _ = _
  rw [Ideal.ofBits_zero_f32, zero_add]
  refine Finset.sum_congr rfl fun j _ => ?_
  have e : hr.lift (ix1 i) j = ix2 i j := by
    funext a; fin_cases a <;> rfl
  rw [mulf_apply, e]
  rfl

/-- Entry `(i, j)` of the reference's result. -/
theorem refArray_apply (i : Fin 12288) (j : Fin 4096) :
    refArray X G (ix2 i j) = Ideal.div ((G (ix1 j) : EReal) * X (ix2 i j))
      (Ideal.sqrt (Ideal.div (∑ k : Fin 4096, (X (ix2 i k) : EReal) * X (ix2 i k)) (Ideal.ofBits .f32 0x45800000#32)
        + Ideal.ofBits .f32 0x3727C5AC#32)) := by
  have eg : broadcastInDim S12288x4096 ![0, 1] bcast_S1x4096_S12288x4096_0_1 (broadcastInDim S1x4096 ![1] bcast_S4096_S1x4096_1 G) (ix2 i j)
      = G (ix1 j) :=
    (broadcastInDim_apply _ _ _ (ix2 i j) (ix2 (0 : Fin 1) j) fun a => by fin_cases a <;> rfl).trans
      (broadcastInDim_apply _ _ _ (ix2 (0 : Fin 1) j) (ix1 j) fun a => by fin_cases a; rfl)
  have es : broadcastInDim S12288x1 ![0] bcast_S12288_S12288x1_0
        (Host.reduceAdd (mulf X X) (constant S_ .f32 0x00000000#32) reducesTo_S12288x4096_S12288_d1 h_S_) (ix2 i (0 : Fin 1))
      = ∑ k : Fin 4096, (X (ix2 i k) : EReal) * X (ix2 i k) :=
    (broadcastInDim_apply _ bcast_S12288_S12288x1_0 _ (ix2 i (0 : Fin 1)) (ix1 i) fun a => by fin_cases a; rfl).trans (refSum_apply X i)
  refine congrArg₂ Ideal.div (congrArg (· * (X (ix2 i j) : EReal)) eg) ?_
  refine (broadcastInDim_apply _ _ _ (ix2 i j) (ix2 i (0 : Fin 1)) fun a => by fin_cases a <;> rfl).trans ?_
  exact congrArg (fun s : EReal => Ideal.sqrt (Ideal.div s _ + _)) es

end Cert.Rms

end
-- ==== Proof.Arith.lean ====
module

public import Idealize.ShloMosaic.PureOps.Ideal
public import Idealize.ShloMosaic.PureOps.Ideal.Laws

/-!
# The arithmetic of the comparison

Over the extended reals: the kernel multiplies a sum of squares by `2⁻¹²` and a product by the inverse root, the reference divides by `4096` and by the
root; both are the same number, infinite sums included.
-/

@[expose] public section

noncomputable section

namespace Cert.Rms

open Idealize.ShloMosaic

/-- A square is at least zero. -/
theorem sq_nonneg' (x : EReal) : 0 ≤ x * x := by
  induction x with
  | bot => simp
  | top => simp
  | coe r => exact_mod_cast mul_self_nonneg r

/-- The kernel's factor is one over 4096, -/
theorem factor_eq : Ideal.ofBits .f32 0x39800000#32 = ((4096 : ℝ)⁻¹ : ℝ) := by
  simp [Ideal.ofBits, Ideal.ieee, -EReal.coe_mul]; norm_num

/-- the reference's divisor is 4096, -/
theorem divisor_eq : Ideal.ofBits .f32 0x45800000#32 = ((4096 : ℝ) : EReal) := by
  simp [Ideal.ofBits, Ideal.ieee, -EReal.coe_mul]; norm_num

/-- and what both add before the root is positive and finite. -/
theorem eps_pos : ∃ e : ℝ, 0 < e ∧ Ideal.ofBits .f32 0x3727C5AC#32 = (e : EReal) := by
  refine ⟨_, ?_, by simp [Ideal.ofBits, Ideal.ieee, -EReal.coe_mul]; rfl⟩
  norm_num

/-- The two means agree. -/
theorem mean_eq (s : EReal) : Ideal.div s (Ideal.ofBits .f32 0x45800000#32) = s * Ideal.ofBits .f32 0x39800000#32 := by
  rw [factor_eq, divisor_eq]
  unfold Ideal.div
  rw [if_neg (by exact_mod_cast (by norm_num : (4096 : ℝ) ≠ 0)), EReal.coe_inv]

/-- Dividing by the root of a positive number is multiplying by its inverse root. -/
theorem div_sqrt (y d : EReal) (hd : 0 < d) : Ideal.div y (Ideal.sqrt d) = y * Ideal.rsqrt d := by
  induction d with
  | bot => simp at hd
  | top => simp [Ideal.div]
  | coe r =>
    have hr : 0 < r := by exact_mod_cast hd
    have hs : Real.sqrt r ≠ 0 := (Real.sqrt_pos.mpr hr).ne'
    rw [Ideal.sqrt_coe, Ideal.rsqrt_coe, if_neg hr.le.not_gt, if_neg hr.le.not_gt, if_neg hr.ne']
    unfold Ideal.div
    rw [if_neg (by exact_mod_cast hs), EReal.coe_inv]

/-- The mean of a nonnegative sum, and what is added, is positive. -/
theorem mean_pos (s : EReal) (hs : 0 ≤ s) : 0 < s * Ideal.ofBits .f32 0x39800000#32 + Ideal.ofBits .f32 0x3727C5AC#32 := by
  obtain ⟨e, he, h⟩ := eps_pos
  rw [h, factor_eq]
  have h1 : (0 : EReal) ≤ s * (((4096 : ℝ)⁻¹ : ℝ) : EReal) :=
    mul_nonneg hs (by exact_mod_cast (by norm_num : (0 : ℝ) ≤ (4096 : ℝ)⁻¹))
  exact lt_of_lt_of_le (by exact_mod_cast he) (le_add_of_nonneg_left h1)

/-- Entry by entry the reference's formula is the kernel's. -/
theorem entry_eq (x g s : EReal) (hs : 0 ≤ s) :
    x * g * Ideal.rsqrt (s * Ideal.ofBits .f32 0x39800000#32 + Ideal.ofBits .f32 0x3727C5AC#32)
      = Ideal.div (g * x) (Ideal.sqrt (Ideal.div s (Ideal.ofBits .f32 0x45800000#32) + Ideal.ofBits .f32 0x3727C5AC#32)) := by
  rw [mean_eq, div_sqrt _ _ (mean_pos s hs), mul_comm g x]

/-- A sum over 4096 columns is the sum over the left half and the sum over the right. -/
theorem sum_halves (f : Fin 4096 → EReal) (l r : Fin 2048 → EReal) (hl : ∀ j : Fin 2048, l j = f ⟨j.val, by omega⟩)
    (hr : ∀ j : Fin 2048, r j = f ⟨2048 + j.val, by omega⟩) : ∑ k, f k = ∑ j, l j + ∑ j, r j := by
  refine (Fin.sum_univ_add (a := 2048) (b := 2048) f).trans ?_
  exact congrArg₂ (· + ·) (Finset.sum_congr rfl fun j _ => (hl j).symm) (Finset.sum_congr rfl fun j _ => (hr j).symm)

end Cert.Rms

end
-- ==== Proof.Equation.lean ====
module

public import proofs.«01_k».proof.Proof.Result
public import proofs.«01_k».proof.Proof.RefValue
public import proofs.«01_k».proof.Proof.Arith
public import Idealize.ShloMosaic.Lib.Layout

/-!
# The kernel's result is its block of the reference's

Device `c` holds rows `6144 (c / 2) + i` and columns `2048 (c % 2) + j` of the whole array. Its mate holds the other half of the same rows, so their
two sums are the whole row's sum, in one order or the other.
-/

@[expose] public section

noncomputable section

namespace Cert.Rms

open Cert.KernelIdeal Cert.KernelIdeal.Gen
open Idealize.ShloMosaic hiding ix1 ix2 eq_ix2 mulf_apply
open Idealize.ShloMosaic.TcCoe
open Idealize.SL Idealize.SL.Sem
open Idealize.ShloMosaic.ValueIdx

/-- Row `r` of device `c`'s block in the whole array. -/
def rowOf (c : Dev nD) (r : Fin 6144) : Fin 12288 := ⟨c.val / 2 * 6144 + r.val, by have h : c.val < 4 := c.isLt; omega⟩
/-- Column `j` of device `c`'s block in the whole array. -/
def colOf (c : Dev nD) (j : Fin 2048) : Fin 4096 := ⟨c.val % 2 * 2048 + j.val, by omega⟩

/-- Device `c`'s block of an array of the whole `x`'s shape, entry by entry. -/
theorem block_x {α : Type} (X : (⟨2, ![12288, 4096]⟩ : Shape).Idx → α) (c : Dev nD) (r : Fin 6144) (j : Fin 2048) :
    (Layout.blockN ⟨2, ![6144, 2048]⟩ ⟨2, ![12288, 4096]⟩ (Layout.meshBlock [2, 2] ![[0], [1]] c) X : _ → α) (ix2 r j)
      = X (ix2 (rowOf c r) (colOf c j)) := by
  have h0 : Layout.meshLin [2, 2] c.val [0] = c.val / 2 := by revert c; decide
  have h1 : Layout.meshLin [2, 2] c.val [1] = c.val % 2 := by revert c; decide
  rw [Layout.blockN_apply]
  refine congrArg X (funext fun a => Fin.ext ?_)
  rw [Layout.TilesN.idx_val]
  fin_cases a
  · exact congrArg (fun n => n * 6144 + r.val) h0
  · exact congrArg (fun n => n * 2048 + j.val) h1

/-- Device `c`'s block of the whole `gamma`, entry by entry. -/
theorem block_g {α : Type} (G : (⟨1, ![4096]⟩ : Shape).Idx → α) (c : Dev nD) (j : Fin 2048) :
    (Layout.blockN ⟨1, ![2048]⟩ ⟨1, ![4096]⟩ (Layout.meshBlock [2, 2] ![[1]] c) G : _ → α) (ix1 j) = G (ix1 (colOf c j)) := by
  have h1 : Layout.meshLin [2, 2] c.val [1] = c.val % 2 := by revert c; decide
  rw [Layout.blockN_apply]
  refine congrArg G (funext fun a => Fin.ext ?_)
  rw [Layout.TilesN.idx_val]
  fin_cases a
  exact congrArg (fun n => n * 2048 + j.val) h1

/-- The mate is in the same row of the mesh, -/
theorem mate_row (c : Dev nD) : (mate c).val / 2 = c.val / 2 := by revert c; decide
/-- and in the other column. -/
theorem mate_col (c : Dev nD) : (mate c).val % 2 = 1 - c.val % 2 := by revert c; decide

variable (m : (ℓ : Loc nD τ sig) → Buf (Elt Ideal) ℓ)
  (X : FVec Ideal Cert.ReferenceIdeal.S12288x4096 .f32) (G : FVec Ideal Cert.ReferenceIdeal.S4096 .f32)

/-- The sum of the squares of row `i` of the whole array. -/
def rowSum (i : Fin 12288) : EReal := ∑ k : Fin 4096, (X (ix2 i k) : EReal) * X (ix2 i k)

theorem rowSum_nonneg (i : Fin 12288) : 0 ≤ rowSum X i := Finset.sum_nonneg fun _ _ => sq_nonneg' _

/-- Entry `r` of a device's sums, in the whole array. -/
theorem rowSq_whole (hx : ∀ c : Dev nD, xs m c
      = Layout.blockN ⟨2, ![6144, 2048]⟩ ⟨2, ![12288, 4096]⟩ (Layout.meshBlock [2, 2] ![[0], [1]] c) X) (c : Dev nD) (r : Fin 6144) :
    rowSq m c (ix2 0 r) = ∑ j : Fin 2048, (X (ix2 (rowOf c r) (colOf c j)) : EReal) * X (ix2 (rowOf c r) (colOf c j)) := by
  rw [rowSq_apply, hx c]
  exact Finset.sum_congr rfl fun j _ => by rw [block_x]

/-- A device's sum and its mate's are the whole row's. -/
theorem pair_sum (hx : ∀ c : Dev nD, xs m c
      = Layout.blockN ⟨2, ![6144, 2048]⟩ ⟨2, ![12288, 4096]⟩ (Layout.meshBlock [2, 2] ![[0], [1]] c) X) (c : Dev nD) (r : Fin 6144) :
    (rowSq m c (ix2 0 r) + rowSq m (mate c) (ix2 0 r) : EReal) = rowSum X (rowOf c r) := by
  rw [rowSq_whole m X hx c, rowSq_whole m X hx (mate c)]
  have hrow : rowOf (mate c) r = rowOf c r := Fin.ext (by unfold rowOf; simp only [mate_row])
  rw [hrow]
  have hcol := mate_col c
  unfold rowSum
  rcases Nat.mod_two_eq_zero_or_one c.val with h | h
  · refine (sum_halves _ _ _ (fun j => ?_) fun j => ?_).symm
    · have e : colOf c j = ⟨j.val, by omega⟩ := Fin.ext (by unfold colOf; simp only [h]; omega)
      rw [e]
    · have e : colOf (mate c) j = ⟨2048 + j.val, by omega⟩ := Fin.ext (by unfold colOf; simp only [hcol, h])
      rw [e]
  · refine (add_comm _ _).trans (sum_halves _ _ _ (fun j => ?_) fun j => ?_).symm
    · have e : colOf (mate c) j = ⟨j.val, by omega⟩ := Fin.ext (by unfold colOf; simp only [hcol, h]; omega)
      rw [e]
    · have e : colOf c j = ⟨2048 + j.val, by omega⟩ := Fin.ext (by unfold colOf; simp only [h])
      rw [e]

/-- An entry of device `c`'s result is the entry of the reference's at the same place. -/
theorem out_entry (hx : ∀ c : Dev nD, xs m c
      = Layout.blockN ⟨2, ![6144, 2048]⟩ ⟨2, ![12288, 4096]⟩ (Layout.meshBlock [2, 2] ![[0], [1]] c) X)
    (hg : ∀ c : Dev nD, gs m c = Layout.blockN ⟨1, ![2048]⟩ ⟨1, ![4096]⟩ (Layout.meshBlock [2, 2] ![[1]] c) G)
    (c : Dev nD) (r : Fin 6144) (j : Fin 2048) :
    outAt m c (ix2 r j) = refArray X G (ix2 (rowOf c r) (colOf c j)) := by
  have ex : xs m c (ix2 r j) = X (ix2 (rowOf c r) (colOf c j)) := (congrFun (hx c) _).trans (block_x X c r j)
  have eg : gs m c (ix1 j) = G (ix1 (colOf c j)) := (congrFun (hg c) _).trans (block_g G c j)
  refine Eq.trans ?_ (refArray_apply X G (rowOf c r) (colOf c j)).symm
  refine Eq.trans ?_ (entry_eq _ _ _ (rowSum_nonneg X (rowOf c r)))
  exact congrArg₂ (fun p q : EReal => p * Ideal.rsqrt (q * Ideal.ofBits .f32 0x39800000#32 + Ideal.ofBits .f32 0x3727C5AC#32))
    (congrArg₂ (fun p q : EReal => p * q) ex eg) (pair_sum m X hx c r)

/-- Device `c`'s result is its block of the reference's. -/
theorem out_eq (hx : ∀ c : Dev nD, xs m c
      = Layout.blockN ⟨2, ![6144, 2048]⟩ ⟨2, ![12288, 4096]⟩ (Layout.meshBlock [2, 2] ![[0], [1]] c) X)
    (hg : ∀ c : Dev nD, gs m c = Layout.blockN ⟨1, ![2048]⟩ ⟨1, ![4096]⟩ (Layout.meshBlock [2, 2] ![[1]] c) G) (c : Dev nD) :
    outAt m c = Layout.blockN ⟨2, ![6144, 2048]⟩ ⟨2, ![12288, 4096]⟩ (Layout.meshBlock [2, 2] ![[0], [1]] c) (refArray X G) :=
  funext fun i => by
    rw [eq_ix2 i]
    exact (out_entry m X G hx hg c (i 0) (i 1)).trans (block_x (refArray X G) c (i 0) (i 1)).symm

end Cert.Rms

end
-- ==== Proof.Algebraic.lean ====
module

public import proofs.«01_k».proof.Proof.Equation
public import proofs.«01_k».proof.Proof.Run
public import proofs.«01_k».proof.Defs

/-!
# The kernel and the reference agree

Each run is proved to end in a stated value: the kernel's in `outAt`, the reference's in `refArray`. From matching inputs each device's value is
its block of the reference's.
-/

@[expose] public section

noncomputable section

namespace Cert.Rms

open Idealize.ShloMosaic Idealize.SL.Sem

/-- Over the extended reals, from inputs that are blocks of the reference's, every device ends with its block of the reference's result. -/
theorem algebraic : Cert.algebraic_KernelIdeal_ReferenceIdeal (hKernelIdeal := Cert.KernelIdeal.Gen.facts)
    (hReferenceIdeal := Cert.ReferenceIdeal.Gen.facts) := by
  intro m g m' g' _ hin
  refine ⟨refArray (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run _ _ _).mono (fun r h c => ⟨?_, (h.1 c).1, (h.1 c).2.1⟩) (run_main (F := Ideal) m g),
    (θ_run _ _ _).mono (fun r h => h 0) (run_reference m' g')⟩
  exact (h.1 c).2.2.trans ((W3_result m c).trans (out_eq m _ _ (fun c => (hin c).1) (fun c => (hin c).2) c))

end Cert.Rms

end
-- ==== Proof.lean ====
/- The proof of the certificate's claim: the three programs run, leave their arguments and end with every counter at zero; the idealized kernel is
   the printed one; and over the extended reals the kernel's result is the reference's, block by block. Each part is proved in a module of its own
   under Proof/; this file only puts them together. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Frames
public import proofs.«01_k».proof.Proof.Algebraic

@[expose] public section

noncomputable section

namespace Cert.Proof

/-- Everything the certificate claims. -/
theorem claim : Cert.Claim := ⟨Cert.Kernel.Gen.facts, Cert.KernelIdeal.Gen.facts, Cert.ReferenceIdeal.Gen.facts,
  Cert.Rms.frame_kernel, Cert.Rms.frame_ideal, Cert.Rms.frame_reference, trivial, Cert.Rms.algebraic⟩

end Cert.Proof

end
